-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S16x2048x512 : Shape := ⟨3, ![16, 2048, 512]⟩
abbrev S512x512 : Shape := ⟨2, ![512, 512]⟩
abbrev S256x512 : Shape := ⟨2, ![256, 512]⟩
abbrev S1x256 : Shape := ⟨2, ![1, 256]⟩
abbrev S_ : Shape := ⟨0, ![]⟩
abbrev S512 : Shape := ⟨1, ![512]⟩
abbrev S255x512 : Shape := ⟨2, ![255, 512]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x256 : S_.BroadcastsInDim S1x256 (![] : Fin 0 → Fin S1x256.rank)
  reducesTo_S1x256_S_d0_1 : S1x256.ReducesTo [0, 1] S_
  reducesTo_S512x512_S512_d1 : S512x512.ReducesTo [1] S512
  reducesTo_S512_S_d0 : S512.ReducesTo [0] S_
  slices_S256x512_S255x512_0_0 : S256x512.Slices ![0, 0] S255x512
  slices_S256x512_S255x512_1_0 : S256x512.Slices ![1, 0] S255x512
  reducesTo_S255x512_S_d0_1 : S255x512.ReducesTo [0, 1] S_

variable [Facts]

def fn_part1 {F : FTy → Type} [FloatOps F] (main_arg2 : FVec F S256x512 .f32) (main_v13 : IVec S_ 1) (main_v15 : IVec S512x512 1) (main_c_5 : IVec S_ 1) : IVec S_ 1 :=
  let main_v16 : IVec S512 1 := (fun x v => Host.reduce IntOp.ori x v reducesTo_S512x512_S512_d1 h_S_) main_v15 main_c_5
  let main_c_6 : IVec S_ 1 := constantI S_ 1 1#1
  let main_v17 : IVec S_ 1 := (fun x v => Host.reduce IntOp.andi x v reducesTo_S512_S_d0 h_S_) main_v16 main_c_6
  let main_v18 : FVec F S255x512 .f32 := (extractStridedSlice S255x512 ![0, 0] · slices_S256x512_S255x512_0_0) main_arg2
  let main_v19 : FVec F S255x512 .f32 := (extractStridedSlice S255x512 ![1, 0] · slices_S256x512_S255x512_1_0) main_arg2
  let main_v20 : IVec S255x512 1 := cmpf .ole main_v18 main_v19
  let main_c_7 : IVec S_ 1 := constantI S_ 1 1#1
  let main_v21 : IVec S_ 1 := (fun x v => Host.reduce IntOp.andi x v reducesTo_S255x512_S_d0_1 h_S_) main_v20 main_c_7
  let main_v22 : IVec S_ 1 := andi main_v13 main_v17
  let main_v23 : IVec S_ 1 := andi main_v22 main_v21
  main_v23

def fn {F : FTy → Type} [FloatOps F] (main_arg0 : FVec F S16x2048x512 .f32) (main_arg1 : FVec F S512x512 .f32) (main_arg2 : FVec F S256x512 .f32) (main_arg3 : FVec F S1x256 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_cst_4 : FVec F S_ .f32 := constant S_ .f32 0x00000000#32
  let main_v14 : FVec F S512x512 .f32 := broadcastInDim S512x512 ![] bcast_S_S512x512 main_cst_4
  let main_v15 : IVec S512x512 1 := cmpf .une main_arg1 main_v14
  let main_c_5 : IVec S_ 1 := constantI S_ 1 0#1
  fn_part1 (F := F) main_arg2 main_v13 main_v15 main_c_5
-- ==== Kernel.lean ====
abbrev S16x2048x512 : Shape := ⟨3, ![16, 2048, 512]⟩
abbrev S512x512 : Shape := ⟨2, ![512, 512]⟩
abbrev S256x512 : Shape := ⟨2, ![256, 512]⟩
abbrev S1x256 : Shape := ⟨2, ![1, 256]⟩
abbrev S2048 : Shape := ⟨1, ![2048]⟩
abbrev S1x2048 : Shape := ⟨2, ![1, 2048]⟩
abbrev S256x1 : Shape := ⟨2, ![256, 1]⟩
abbrev S_ : Shape := ⟨0, ![]⟩
abbrev S256x2048 : Shape := ⟨2, ![256, 2048]⟩
abbrev S16x1x512 : Shape := ⟨3, ![16, 1, 512]⟩
abbrev S1x2048x512 : Shape := ⟨3, ![1, 2048, 512]⟩
abbrev S256x256 : Shape := ⟨2, ![256, 256]⟩
abbrev S1x1x256 : Shape := ⟨3, ![1, 1, 256]⟩
abbrev S256 : Shape := ⟨1, ![256]⟩
abbrev S2048x512 : Shape := ⟨2, ![2048, 512]⟩
abbrev S2048x256 : Shape := ⟨2, ![2048, 256]⟩
abbrev S2048x1 : Shape := ⟨2, ![2048, 1]⟩
abbrev S1x2x1024x256 : Shape := ⟨4, ![1, 2, 1024, 256]⟩
abbrev S1x1x1024x256 : Shape := ⟨4, ![1, 1, 1024, 256]⟩
abbrev S1x1024x256 : Shape := ⟨3, ![1, 1024, 256]⟩
abbrev S2x2x512x256 : Shape := ⟨4, ![2, 2, 512, 256]⟩
abbrev S2x1x512x256 : Shape := ⟨4, ![2, 1, 512, 256]⟩
abbrev S2x512x256 : Shape := ⟨3, ![2, 512, 256]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S8x2x128x256 : Shape := ⟨4, ![8, 2, 128, 256]⟩
abbrev S8x1x128x256 : Shape := ⟨4, ![8, 1, 128, 256]⟩
abbrev S8x128x256 : Shape := ⟨3, ![8, 128, 256]⟩
abbrev S16x2x64x256 : Shape := ⟨4, ![16, 2, 64, 256]⟩
abbrev S16x1x64x256 : Shape := ⟨4, ![16, 1, 64, 256]⟩
abbrev S16x64x256 : Shape := ⟨3, ![16, 64, 256]⟩
abbrev S32x2x32x256 : Shape := ⟨4, ![32, 2, 32, 256]⟩
abbrev S32x1x32x256 : Shape := ⟨4, ![32, 1, 32, 256]⟩
abbrev S32x32x256 : Shape := ⟨3, ![32, 32, 256]⟩
abbrev S64x2x16x256 : Shape := ⟨4, ![64, 2, 16, 256]⟩
abbrev S64x1x16x256 : Shape := ⟨4, ![64, 1, 16, 256]⟩
abbrev S64x16x256 : Shape := ⟨3, ![64, 16, 256]⟩
abbrev S128x2x8x256 : Shape := ⟨4, ![128, 2, 8, 256]⟩
abbrev S128x1x8x256 : Shape := ⟨4, ![128, 1, 8, 256]⟩
abbrev S128x8x256 : Shape := ⟨3, ![128, 8, 256]⟩
abbrev S2044x256 : Shape := ⟨2, ![2044, 256]⟩
abbrev S4x256 : Shape := ⟨2, ![4, 256]⟩
abbrev S2046x256 : Shape := ⟨2, ![2046, 256]⟩
abbrev S2x256 : Shape := ⟨2, ![2, 256]⟩
abbrev S2047x256 : Shape := ⟨2, ![2047, 256]⟩

abbrev nBuf : Space → Nat
  | .hbm => 76
  | .vmem => 10
  | .smem => 0
  | _ => 0

abbrev bufTy : (tb : Table) → Fin (tcTables nBuf tb) → BufTy
  | .hbm, ⟨0, _⟩ => ⟨S16x2048x512, .f32⟩
  | .hbm, ⟨1, _⟩ => ⟨S512x512, .f32⟩
  | .hbm, ⟨2, _⟩ => ⟨S256x512, .f32⟩
  | .hbm, ⟨3, _⟩ => ⟨S1x256, .f32⟩
  | .hbm, ⟨4, _⟩ => ⟨S2048, .i32⟩
  | .hbm, ⟨5, _⟩ => ⟨S1x2048, .i32⟩
  | .hbm, ⟨6, _⟩ => ⟨S256x1, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x2048, .i32⟩
  | .hbm, ⟨53, _⟩ => ⟨S256x2048, .i32⟩
  | .hbm, ⟨54, _⟩ => ⟨S256x2048, .i1⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S_, .f32⟩
  | .hbm, ⟨60, _⟩ => ⟨S256x2048, .f32⟩
  | .hbm, ⟨61, _⟩ => ⟨S256x2048, .f32⟩
  | .hbm, ⟨62, _⟩ => ⟨S256x2048, .f32⟩
  | .hbm, ⟨63, _⟩ => ⟨S_, .i32⟩
  | .hbm, ⟨64, _⟩ => ⟨S256x1, .i32⟩
  | .hbm, ⟨65, _⟩ => ⟨S256x1, .i32⟩
  | .hbm, ⟨66, _⟩ => ⟨S256x2048, .i32⟩
  | .hbm, ⟨67, _⟩ => ⟨S256x2048, .i32⟩
  | .hbm, ⟨68, _⟩ => ⟨S256x2048, .i1⟩
  | .hbm, ⟨69, _⟩ => ⟨S_, .f32⟩
  | .hbm, ⟨70, _⟩ => ⟨S_, .f32⟩
  | .hbm, ⟨71, _⟩ => ⟨S256x2048, .f32⟩
  | .hbm, ⟨72, _⟩ => ⟨S256x2048, .f32⟩
  | .hbm, ⟨73, _⟩ => ⟨S256x2048, .f32⟩
  | .hbm, ⟨74, _⟩ => ⟨S256x2048, .f32⟩
  | .hbm, ⟨75, _⟩ => ⟨S16x1x512, .f32⟩
  | .local _ .vmem, ⟨0, _⟩ => ⟨S1x2048x512, .f32⟩
  | .local _ .vmem, ⟨1, _⟩ => ⟨S1x2048x512, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x2048, .f32⟩
  | .local _ .vmem, ⟨8, _⟩ => ⟨S1x1x256, .f32⟩
  | .local _ .vmem, ⟨9, _⟩ => ⟨S1x1x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_cst_11 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_12 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_13 : Ref sig .tc := ⟨.hbm, 55, rfl⟩
abbrev main_v36 : Ref sig .tc := ⟨.hbm, 56, rfl⟩
abbrev main_v37 : Ref sig .tc := ⟨.hbm, 57, rfl⟩
abbrev main_cst_14 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v38 : Ref sig .tc := ⟨.hbm, 62, rfl⟩
abbrev main_c_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_16 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x512 : Shape := ⟨3, ![16, 2048, 512]⟩
abbrev S512x512 : Shape := ⟨2, ![512, 512]⟩
abbrev S256x512 : Shape := ⟨2, ![256, 512]⟩
abbrev S1x256 : Shape := ⟨2, ![1, 256]⟩
abbrev S_ : Shape := ⟨0, ![]⟩
abbrev S512 : Shape := ⟨1, ![512]⟩
abbrev S512x1 : Shape := ⟨2, ![512, 1]⟩
abbrev S2049 : Shape := ⟨1, ![2049]⟩
abbrev S1 : Shape := ⟨1, ![1]⟩
abbrev S2050 : Shape := ⟨1, ![2050]⟩
abbrev S2048 : Shape := ⟨1, ![2048]⟩
abbrev S257 : Shape := ⟨1, ![257]⟩
abbrev S258 : Shape := ⟨1, ![258]⟩
abbrev S256 : Shape := ⟨1, ![256]⟩
abbrev S1x2048 : Shape := ⟨2, ![1, 2048]⟩
abbrev S256x1 : Shape := ⟨2, ![256, 1]⟩
abbrev S256x2048 : Shape := ⟨2, ![256, 2048]⟩
abbrev S16x2047x512 : Shape := ⟨3, ![16, 2047, 512]⟩
abbrev S2047 : Shape := ⟨1, ![2047]⟩
abbrev S1x2047x1 : Shape := ⟨3, ![1, 2047, 1]⟩
abbrev S16x256x512 : Shape := ⟨3, ![16, 256, 512]⟩
abbrev S1x256x1 : Shape := ⟨3, ![1, 256, 1]⟩
abbrev S1x256x512 : Shape := ⟨3, ![1, 256, 512]⟩
abbrev S16x256x512x1 : Shape := ⟨4, ![16, 256, 512, 1]⟩
abbrev S1x1x1x1 : Shape := ⟨4, ![1, 1, 1, 1]⟩
abbrev S16x512x256 : Shape := ⟨3, ![16, 512, 256]⟩
abbrev S16x512x1 : Shape := ⟨3, ![16, 512, 1]⟩
abbrev S16x512 : Shape := ⟨2, ![16, 512]⟩
abbrev S16x1x512 : Shape := ⟨3, ![16, 1, 512]⟩

abbrev nBuf : Space → Nat
  | .hbm => 158
  | .vmem => 0
  | .smem => 0
  | _ => 0

abbrev hbmTy0_0 (i : Nat) : BufTy := match i % 128 with
  | 0 => ⟨S16x2048x512, .f32⟩
  | 1 => ⟨S512x512, .f32⟩
  | 2 => ⟨S256x512, .f32⟩
  | 3 => ⟨S1x256, .f32⟩
  | 4 => ⟨S512x512, .f32⟩
  | 5 => ⟨S_, .f32⟩
  | 6 => ⟨S512, .f32⟩
  | 7 => ⟨S512x1, .f32⟩
  | 8 => ⟨S512x1, .f32⟩
  | 9 => ⟨S512x512, .f32⟩
  | 10 => ⟨S512x512, .f32⟩
  | 11 => ⟨S16x2048x512, .f32⟩
  | 12 => ⟨S16x2048x512, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S2049, .f32⟩
  | 21 => ⟨S_, .f32⟩
  | 22 => ⟨S2049, .f32⟩
  | 23 => ⟨S2049, .f32⟩
  | 24 => ⟨S1, .f32⟩
  | 25 => ⟨S_, .f32⟩
  | 26 => ⟨S2049, .f32⟩
  | 27 => ⟨S2049, .f32⟩
  | 28 => ⟨S2049, .f32⟩
  | 29 => ⟨S2049, .f32⟩
  | 30 => ⟨S1, .f32⟩
  | 31 => ⟨S2049, .f32⟩
  | 32 => ⟨S2049, .f32⟩
  | 33 => ⟨S2049, .f32⟩
  | 34 => ⟨S1, .f32⟩
  | 35 => ⟨S2050, .f32⟩
  | 36 => ⟨S2048, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S257, .f32⟩
  | 45 => ⟨S_, .f32⟩
  | 46 => ⟨S257, .f32⟩
  | 47 => ⟨S257, .f32⟩
  | 48 => ⟨S1, .f32⟩
  | 49 => ⟨S_, .f32⟩
  | 50 => ⟨S257, .f32⟩
  | 51 => ⟨S257, .f32⟩
  | 52 => ⟨S257, .f32⟩
  | 53 => ⟨S257, .f32⟩
  | 54 => ⟨S1, .f32⟩
  | 55 => ⟨S257, .f32⟩
  | 56 => ⟨S257, .f32⟩
  | 57 => ⟨S257, .f32⟩
  | 58 => ⟨S1, .f32⟩
  | 59 => ⟨S258, .f32⟩
  | 60 => ⟨S256, .f32⟩
  | 61 => ⟨S1x2048, .f32⟩
  | 62 => ⟨S256x1, .f32⟩
  | 63 => ⟨S256x2048, .f32⟩
  | 64 => ⟨S256x2048, .f32⟩
  | 65 => ⟨S256x2048, .i1⟩
  | 66 => ⟨S256x2048, .i32⟩
  | 67 => ⟨S_, .i32⟩
  | 68 => ⟨S256, .i32⟩
  | 69 => ⟨S_, .i32⟩
  | 70 => ⟨S256, .i32⟩
  | 71 => ⟨S256, .i32⟩
  | 72 => ⟨S_, .i32⟩
  | 73 => ⟨S_, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S16x2047x512, .f32⟩
  | 81 => ⟨S16x2047x512, .f32⟩
  | 82 => ⟨S16x2047x512, .f32⟩
  | 83 => ⟨S2047, .f32⟩
  | 84 => ⟨S2047, .f32⟩
  | 85 => ⟨S2047, .f32⟩
  | 86 => ⟨S_, .f32⟩
  | 87 => ⟨S2047, .f32⟩
  | 88 => ⟨S2047, .f32⟩
  | 89 => ⟨S1x2047x1, .f32⟩
  | 90 => ⟨S16x2047x512, .f32⟩
  | 91 => ⟨S16x2047x512, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S16x256x512, .f32⟩
  | 101 => ⟨S_, .i32⟩
  | 102 => ⟨S256, .i32⟩
  | 103 => ⟨S256, .i1⟩
  | 104 => ⟨S_, .i32⟩
  | 105 => ⟨S256, .i32⟩
  | 106 => ⟨S256, .i32⟩
  | 107 => ⟨S256, .i32⟩
  | 108 => ⟨S256x1, .i32⟩
  | 109 => ⟨S16x256x512, .f32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S256, .f32⟩
  | 119 => ⟨S256, .f32⟩
  | 120 => ⟨S1x256x1, .f32⟩
  | 121 => ⟨S16x256x512, .f32⟩
  | 122 => ⟨S16x256x512, .f32⟩
  | 123 => ⟨S16x256x512, .f32⟩
  | 124 => ⟨S1x256x512, .f32⟩
  | 125 => ⟨S16x256x512, .f32⟩
  | 126 => ⟨S16x256x512, .i32⟩
  | 127 => ⟨S16x256x512, .f32⟩
  | _ => ⟨S16x2048x512, .f32⟩

abbrev hbmTy0_1 (i : Nat) : BufTy := match i % 128 with
  | 0 => ⟨S16x256x512, .i32⟩
  | 1 => ⟨S_, .i32⟩
  | 2 => ⟨S16x256x512, .i32⟩
  | 3 => ⟨S16x256x512, .i1⟩
  | 4 => ⟨S_, .i32⟩
  | 5 => ⟨S16x256x512, .i32⟩
  | 6 => ⟨S16x256x512, .i32⟩
  | 7 => ⟨S16x256x512, .i32⟩
  | 8 => ⟨S16x256x512x1, .i32⟩
  | 9 => ⟨S1, .i32⟩
  | 10 => ⟨S_, .i32⟩
  | 11 => ⟨S16x256x512x1, .i32⟩
  | 12 => ⟨S16x256x512x1, .i1⟩
  | 13 => ⟨S1x1x1x1, .i32⟩
  | 14 => ⟨S16x256x512x1, .i32⟩
  | 15 => ⟨S16x256x512x1, .i1⟩
  | 16 => ⟨S16x256x512x1, .i1⟩
  | 17 => ⟨S_, .i1⟩
  | 18 => ⟨S16x256x512, .i1⟩
  | 19 => ⟨S16x256x512, .f32⟩
  | 20 => ⟨S_, .f32⟩
  | 21 => ⟨S16x256x512, .f32⟩
  | 22 => ⟨S16x256x512, .f32⟩
  | 23 => ⟨S16x256x512, .f32⟩
  | 24 => ⟨S16x512x256, .f32⟩
  | 25 => ⟨S256x1, .f32⟩
  | 26 => ⟨S16x512x1, .f32⟩
  | 27 => ⟨S_, .f32⟩
  | 28 => ⟨S16x512, .f32⟩
  | 29 => ⟨S16x1x512, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_cst : Ref sig .tc := ⟨.hbm, 18, rfl⟩
abbrev main_call2_v3 : Ref sig .tc := ⟨.hbm, 19, rfl⟩
abbrev main_call2_v4 : Ref sig .tc := ⟨.hbm, 20, rfl⟩
abbrev main_call2_cst_0 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_cst_1 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_v12 : Ref sig .tc := ⟨.hbm, 30, rfl⟩
abbrev main_call2_v13 : Ref sig .tc := ⟨.hbm, 31, rfl⟩
abbrev main_call2_v14 : Ref sig .tc := ⟨.hbm, 32, rfl⟩
abbrev main_call2_v15 : Ref sig .tc := ⟨.hbm, 33, rfl⟩
abbrev main_call2_v16 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_cst_2 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_cst : Ref sig .tc := ⟨.hbm, 42, rfl⟩
abbrev main_call3_v3 : Ref sig .tc := ⟨.hbm, 43, rfl⟩
abbrev main_call3_v4 : Ref sig .tc := ⟨.hbm, 44, rfl⟩
abbrev main_call3_cst_0 : Ref sig .tc := ⟨.hbm, 45, rfl⟩
abbrev main_call3_v5 : Ref sig .tc := ⟨.hbm, 46, rfl⟩
abbrev main_call3_v6 : Ref sig .tc := ⟨.hbm, 47, rfl⟩
abbrev main_call3_v7 : Ref sig .tc := ⟨.hbm, 48, rfl⟩
abbrev main_call3_cst_1 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_v12 : Ref sig .tc := ⟨.hbm, 54, rfl⟩
abbrev main_call3_v13 : Ref sig .tc := ⟨.hbm, 55, rfl⟩
abbrev main_call3_v14 : Ref sig .tc := ⟨.hbm, 56, rfl⟩
abbrev main_call3_v15 : Ref sig .tc := ⟨.hbm, 57, rfl⟩
abbrev main_call3_v16 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_c : Ref sig .tc := ⟨.hbm, 67, rfl⟩
abbrev main_v15 : Ref sig .tc := ⟨.hbm, 68, rfl⟩
abbrev main_c_3 : Ref sig .tc := ⟨.hbm, 69, rfl⟩
abbrev main_v16 : Ref sig .tc := ⟨.hbm, 70, rfl⟩
abbrev main_v17 : Ref sig .tc := ⟨.hbm, 71, rfl⟩
abbrev main_c_4 : Ref sig .tc := ⟨.hbm, 72, rfl⟩
abbrev main_c_5 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_6 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_7 : Ref sig .tc := ⟨.hbm, 92, rfl⟩
abbrev main_v30 : Ref sig .tc := ⟨.hbm, 93, rfl⟩
abbrev main_v31 : Ref sig .tc := ⟨.hbm, 94, rfl⟩
abbrev main_c_8 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_c_9 : Ref sig .tc := ⟨.hbm, 101, rfl⟩
abbrev main_v37 : Ref sig .tc := ⟨.hbm, 102, rfl⟩
abbrev main_v38 : Ref sig .tc := ⟨.hbm, 103, rfl⟩
abbrev main_c_10 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_c_11 : Ref sig .tc := ⟨.hbm, 110, rfl⟩
abbrev main_v44 : Ref sig .tc := ⟨.hbm, 111, rfl⟩
abbrev main_v45 : Ref sig .tc := ⟨.hbm, 112, rfl⟩
abbrev main_c_12 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call5_v0 : Ref sig .tc := ⟨.hbm, 126, rfl⟩
abbrev main_call5_v1_0 : Ref sig .tc := ⟨.hbm, 127, rfl⟩
abbrev main_v58 : Ref sig .tc := ⟨.hbm, 128, rfl⟩
abbrev main_call6_c : Ref sig .tc := ⟨.hbm, 129, rfl⟩
abbrev main_call6_v0 : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_c_1 : Ref sig .tc := ⟨.hbm, 137, rfl⟩
abbrev main_call6_c_2 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_3 : Ref sig .tc := ⟨.hbm, 145, rfl⟩
abbrev main_call6_v12 : Ref sig .tc := ⟨.hbm, 146, rfl⟩
abbrev main_call6_v13 : Ref sig .tc := ⟨.hbm, 147, rfl⟩
abbrev main_call6_cst : Ref sig .tc := ⟨.hbm, 148, rfl⟩
abbrev main_call6_v14 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_cst_13 : Ref sig .tc := ⟨.hbm, 155, rfl⟩
abbrev main_v64 : Ref sig .tc := ⟨.hbm, 156, rfl⟩
abbrev main_v65 : Ref sig .tc := ⟨.hbm, 157, rfl⟩

abbrev nD : Nat := 1
abbrev τ : Topo := Topo.v7x

variable {F : FTy → Type} [FloatOps F]
-- ==== Proof.Stages.lean ====
/-
  The steps of the kernel's sort, read column by column. The kernel keeps 2048 projections per column and exchanges rows whose
  numbers differ in one bit. A step of distance 8 or more is printed as a reshape that sets the two halves apart (`exch`), a step
  of distance 1, 2 or 4 as two rotations of the rows (`roll`), and a change of direction as a negation of some rows (`flip`).
  Each is here one function of the column (`ce`, `fl`).
-/
module

public import proofs.«01_k».proof.Proof.Gen.KernelIdeal.Skeleton
public import Idealize.ShloMosaic.Lib.Pointwise
public import Idealize.ShloMosaic.Lib.SortNet.Bitonic

@[expose] public section

set_option maxRecDepth 16384

noncomputable section

namespace Cert.Proof.Stages

open Cert.KernelIdeal Cert.KernelIdeal.Facts₀ Idealize.ShloMosaic Idealize.ShloMosaic.SortNet

/-- Row `i` of 2048, the number being given below `2 ^ 11`. -/
def row (i : Fin (2 ^ 11)) : Fin 2048 := ⟨i.1, i.2⟩

/-- Column `c` of an array of 2048 rows. -/
def col {α : Type} (v : S2048x256.Idx → α) (c : Fin 256) : Fin (2 ^ 11) → α := fun i => v (ix2 (row i) c)

/-- One exchange of every pair of rows whose numbers differ in bit `s`: the lesser entry to the row with the bit clear. -/
def ce (s : Nat) (w : Fin (2 ^ 11) → EReal) : Fin (2 ^ 11) → EReal := fun i =>
  if i.1 / 2 ^ s % 2 = 0 then min (w i) (w (partner 11 s i)) else max (w i) (w (partner 11 s i))

/-- The negation of the rows that `p` names. -/
def fl (p : Fin (2 ^ 11) → Bool) (w : Fin (2 ^ 11) → EReal) : Fin (2 ^ 11) → EReal := fun i => if p i then -w i else w i

/-- Bit `s` of a number. -/
def bt (s : Nat) (i : Fin (2 ^ 11)) : Bool := decide (i.1 / 2 ^ s % 2 = 1)

set_option maxHeartbeats 4000000 in
/-- The partner of a row is the row one distance above or below it. -/
theorem partner_arith : ∀ s : Fin 11, ∀ i : Fin (2 ^ 11),
    (partner 11 s.1 i).1 = if i.1 / 2 ^ s.1 % 2 = 0 then i.1 + 2 ^ s.1 else i.1 - 2 ^ s.1 := by
  decide +kernel

/-! ## The exchange printed as a reshape -/

section exch

variable {F : FTy → Type} [FloatOps F]

/-- The exchange at distance `J` as it is printed: the rows set apart as `A` blocks of two halves of `J` rows, the lesser
    entries put into the first half and the greater into the second. -/
def exch (A J : Nat) (h0 : S2048x256.ShapeCasts ⟨4, ![A, 2, J, 256]⟩)
    (h1 : (⟨4, ![A, 2, J, 256]⟩ : Shape).Slices ![0, 0, 0, 0] ⟨4, ![A, 1, J, 256]⟩)
    (h2 : (⟨4, ![A, 2, J, 256]⟩ : Shape).Slices ![0, 1, 0, 0] ⟨4, ![A, 1, J, 256]⟩)
    (h3 : (⟨4, ![A, 1, J, 256]⟩ : Shape).ShapeCasts ⟨3, ![A, J, 256]⟩)
    (h4 : (⟨3, ![A, J, 256]⟩ : Shape).ShapeCasts ⟨4, ![A, 1, J, 256]⟩)
    (h5 : Shape.Concatenates [⟨4, ![A, 1, J, 256]⟩, ⟨4, ![A, 1, J, 256]⟩] ⟨4, ![A, 2, J, 256]⟩ 1)
    (h6 : (⟨4, ![A, 2, J, 256]⟩ : Shape).ShapeCasts S2048x256) (v : FVec F S2048x256 .f32) : FVec F S2048x256 .f32 :=
  have u : FVec F ⟨4, ![A, 2, J, 256]⟩ .f32 := shapeCast _ v h0
  have a : FVec F ⟨3, ![A, J, 256]⟩ .f32 := shapeCast _ (extractStridedSlice ⟨4, ![A, 1, J, 256]⟩ ![0, 0, 0, 0] u h1) h3
  have b : FVec F ⟨3, ![A, J, 256]⟩ .f32 := shapeCast _ (extractStridedSlice ⟨4, ![A, 1, J, 256]⟩ ![0, 1, 0, 0] u h2) h3
  shapeCast S2048x256 (concatenate ⟨4, ![A, 2, J, 256]⟩ 1
    [⟨⟨4, ![A, 1, J, 256]⟩, shapeCast ⟨4, ![A, 1, J, 256]⟩ (minimumf a b) h4⟩,
     ⟨⟨4, ![A, 1, J, 256]⟩, shapeCast ⟨4, ![A, 1, J, 256]⟩ (maximumf a b) h4⟩] h5) h6

end exch

section exchIdeal

variable (A J : Nat) (h0 : S2048x256.ShapeCasts ⟨4, ![A, 2, J, 256]⟩)
    (h1 : (⟨4, ![A, 2, J, 256]⟩ : Shape).Slices ![0, 0, 0, 0] ⟨4, ![A, 1, J, 256]⟩)
    (h2 : (⟨4, ![A, 2, J, 256]⟩ : Shape).Slices ![0, 1, 0, 0] ⟨4, ![A, 1, J, 256]⟩)
    (h3 : (⟨4, ![A, 1, J, 256]⟩ : Shape).ShapeCasts ⟨3, ![A, J, 256]⟩)
    (h4 : (⟨3, ![A, J, 256]⟩ : Shape).ShapeCasts ⟨4, ![A, 1, J, 256]⟩)
    (h5 : Shape.Concatenates [⟨4, ![A, 1, J, 256]⟩, ⟨4, ![A, 1, J, 256]⟩] ⟨4, ![A, 2, J, 256]⟩ 1)
    (h6 : (⟨4, ![A, 2, J, 256]⟩ : Shape).ShapeCasts S2048x256) (v : FVec Ideal S2048x256 .f32)

/-- Half `b` of block `a` at row `r` and column `c` is row `(2 a + b) J + r` of the array. -/
theorem half_apply (off : Fin 4 → Nat) (b : Fin 2) (hoff : off = ![0, b.1, 0, 0])
    (hs : (⟨4, ![A, 2, J, 256]⟩ : Shape).Slices off ⟨4, ![A, 1, J, 256]⟩)
    (a : Fin A) (r : Fin J) (c : Fin 256) (i : Fin 2048) (hi : i.1 = (a.1 * 2 + b.1) * J + r.1) :
    shapeCast ⟨3, ![A, J, 256]⟩ (extractStridedSlice ⟨4, ![A, 1, J, 256]⟩ off (shapeCast ⟨4, ![A, 2, J, 256]⟩ v h0) hs) h3 (ix3 a r c)
      = v (ix2 i c) := by
  subst hoff
  rw [shapeCast_apply _ h3 (ix3 a r c) (ix4 a (0 : Fin 1) r c) (by
      rw [Shape.rowMajor_val_four, Shape.rowMajor_val_three]
      show ((a.1 * 1 + 0) * J + r.1) * 256 + c.1 = (a.1 * J + r.1) * 256 + c.1
      rw [Nat.mul_one, Nat.add_zero]),
    extractStridedSlice_apply _ _ hs _ (ix4 a b r c) (fun x => by
      match x with
      | ⟨0, _⟩ => exact (Nat.zero_add _).symm
      | ⟨1, _⟩ => exact (Nat.add_zero _).symm
      | ⟨2, _⟩ => exact (Nat.zero_add _).symm
      | ⟨3, _⟩ => exact (Nat.zero_add _).symm),
    shapeCast_apply _ h0 _ (ix2 i c) (by
      rw [Shape.rowMajor_val_four, Shape.rowMajor_val_two]
      show i.1 * 256 + c.1 = ((a.1 * 2 + b.1) * J + r.1) * 256 + c.1
      rw [hi])]

/-- THE EXCHANGE ON A COLUMN: at a distance that is a power of two, the reshaped exchange is `ce` on every column. -/
theorem col_exch (s : Nat) (hs : s < 11) (hJ : J = 2 ^ s) (hA : A * 2 * J = 2048) (c : Fin 256) :
    col (exch A J h0 h1 h2 h3 h4 h5 h6 v) c = ce s (col v c) := by
  funext i
  have hi : i.1 < 2048 := i.2
  have hp := partner_arith ⟨s, hs⟩ i
  simp only at hp
  rw [← hJ] at hp
  have hJ0 : 0 < J := by rw [hJ]; exact Nat.two_pow_pos s
  have hr : i.1 % J < J := Nat.mod_lt _ hJ0
  have hq : i.1 / J / 2 < A := by
    rw [Nat.div_div_eq_div_mul, Nat.div_lt_iff_lt_mul (by omega), Nat.mul_comm J 2, ← Nat.mul_assoc, hA]; exact hi
  have e1 : J * (i.1 / J) + i.1 % J = i.1 := Nat.div_add_mod _ _
  have e2 : 2 * (i.1 / J / 2) + i.1 / J % 2 = i.1 / J := Nat.div_add_mod _ _
  have hm : i.1 / J % 2 < 2 := Nat.mod_lt _ (by decide)
  have split : i.1 = ((i.1 / J / 2) * 2 + i.1 / J % 2) * J + i.1 % J := by
    rw [Nat.mul_comm _ 2, e2, Nat.mul_comm]; exact e1.symm
  unfold col ce exch
  rw [← hJ]
  dsimp only
  rw [shapeCast_apply _ h6 (ix2 (row i) c) (ix4 ⟨i.1 / J / 2, hq⟩ ⟨i.1 / J % 2, hm⟩ ⟨i.1 % J, hr⟩ c) (by
      rw [Shape.rowMajor_val_four, Shape.rowMajor_val_two]
      show ((i.1 / J / 2 * 2 + i.1 / J % 2) * J + i.1 % J) * 256 + c.1 = i.1 * 256 + c.1
      rw [← split])]
  by_cases hb : i.1 / J % 2 = 0
  · rw [if_pos hb] at hp ⊢
    rw [concatenate_pair_apply_left _ _ _ h5 _ rfl (ix4 ⟨i.1 / J / 2, hq⟩ (0 : Fin 1) ⟨i.1 % J, hr⟩ c) (fun x => by
        match x with
        | ⟨0, _⟩ => rfl
        | ⟨1, _⟩ => exact hb.symm
        | ⟨2, _⟩ => rfl
        | ⟨3, _⟩ => rfl),
      shapeCast_apply _ h4 _ (ix3 ⟨i.1 / J / 2, hq⟩ ⟨i.1 % J, hr⟩ c) (by
        rw [Shape.rowMajor_val_four, Shape.rowMajor_val_three]
        show (i.1 / J / 2 * J + i.1 % J) * 256 + c.1 = ((i.1 / J / 2 * 1 + 0) * J + i.1 % J) * 256 + c.1
        rw [Nat.mul_one, Nat.add_zero])]
    rw [hb] at split
    show min _ _ = _
    rw [half_apply A J h0 h3 v ![0, 0, 0, 0] 0 rfl h1 ⟨i.1 / J / 2, hq⟩ ⟨i.1 % J, hr⟩ c (row i) split,
      half_apply A J h0 h3 v ![0, 1, 0, 0] 1 rfl h2 ⟨i.1 / J / 2, hq⟩ ⟨i.1 % J, hr⟩ c (row (partner 11 s i)) (by
        show (partner 11 s i).1 = (i.1 / J / 2 * 2 + 1) * J + i.1 % J
        rw [hp, Nat.add_mul, Nat.one_mul]
        rw [Nat.add_mul, Nat.zero_mul] at split
        omega)]
  · have hb1 : i.1 / J % 2 = 1 := by omega
    rw [if_neg hb] at hp ⊢
    rw [concatenate_pair_apply_right _ _ _ h5 _ rfl rfl (ix4 ⟨i.1 / J / 2, hq⟩ (0 : Fin 1) ⟨i.1 % J, hr⟩ c) (fun x hx => by
        match x, hx with
        | ⟨0, _⟩, _ => rfl
        | ⟨1, _⟩, hx => exact absurd rfl hx
        | ⟨2, _⟩, _ => rfl
        | ⟨3, _⟩, _ => rfl) (by show 0 + 1 = i.1 / J % 2; omega),
      shapeCast_apply _ h4 _ (ix3 ⟨i.1 / J / 2, hq⟩ ⟨i.1 % J, hr⟩ c) (by
        rw [Shape.rowMajor_val_four, Shape.rowMajor_val_three]
        show (i.1 / J / 2 * J + i.1 % J) * 256 + c.1 = ((i.1 / J / 2 * 1 + 0) * J + i.1 % J) * 256 + c.1
        rw [Nat.mul_one, Nat.add_zero])]
    rw [hb1] at split
    show max _ _ = _
    rw [half_apply A J h0 h3 v ![0, 1, 0, 0] 1 rfl h2 ⟨i.1 / J / 2, hq⟩ ⟨i.1 % J, hr⟩ c (row i) split,
      half_apply A J h0 h3 v ![0, 0, 0, 0] 0 rfl h1 ⟨i.1 / J / 2, hq⟩ ⟨i.1 % J, hr⟩ c (row (partner 11 s i)) (by
        show (partner 11 s i).1 = (i.1 / J / 2 * 2 + 0) * J + i.1 % J
        rw [hp]
        rw [Nat.add_mul, Nat.one_mul] at split
        rw [Nat.add_mul, Nat.zero_mul]
        omega)]
    exact max_comm _ _

end exchIdeal

end Cert.Proof.Stages

end
-- ==== Proof.Rows.lean ====
/-
  The kernel's two other steps on a column: the exchange at distance 1, 2 or 4, printed as two rotations of the rows and a choice
  by the row's number (`roll`), and the negation of the rows whose number has some bit (`flip`).
-/
module

public import proofs.«01_k».proof.Proof.Stages

@[expose] public section

set_option maxRecDepth 16384

noncomputable section

namespace Cert.Proof.Stages

open Cert.KernelIdeal Cert.KernelIdeal.Gen Idealize.ShloMosaic Idealize.ShloMosaic.SortNet

/-- The number of every row, as the kernel counts them. -/
def rows : IVec S2048x1 32 := iota .tc S2048x1 32 [0] iota_S2048x1_d0_w32

/-- Where the row's number has bit `m`, as printed. -/
def hasBit (m : BitVec 32) : IVec S2048x1 1 := cmpi .ne (andi rows (broadcast S2048x1 m)) (broadcast S2048x1 0#32)

/-- A column of choices spread over the array. -/
def spread (x : IVec S2048x1 1) : IVec S2048x256 1 :=
  broadcastTo S2048x256 (shapeCast S2048x1 x shapeCasts_S2048x1_S2048x1) broadcasts_S2048x1_S2048x256

section defs

variable {F : FTy → Type} [FloatOps F]

/-- The array with every entry taken from zero. -/
def neg (v : FVec F S2048x256 .f32) : FVec F S2048x256 .f32 := subf (broadcast S2048x256 (Scalar.ofBits .f32 0x00000000#32)) v

/-- The chosen rows negated, as printed. -/
def flip (x : IVec S2048x1 1) (v : FVec F S2048x256 .f32) : FVec F S2048x256 .f32 := select (spread x) (neg v) v

variable (J K : Nat) (m : BitVec 32) (h1 : S2048x256.Slices ![J, 0] ⟨2, ![K, 256]⟩) (h2 : S2048x256.Slices ![0, 0] ⟨2, ![J, 256]⟩)
  (h3 : Shape.Concatenates [⟨2, ![K, 256]⟩, ⟨2, ![J, 256]⟩] S2048x256 0)
  (h4 : S2048x256.Slices ![K, 0] ⟨2, ![J, 256]⟩) (h5 : S2048x256.Slices ![0, 0] ⟨2, ![K, 256]⟩)
  (h6 : Shape.Concatenates [⟨2, ![J, 256]⟩, ⟨2, ![K, 256]⟩] S2048x256 0)

/-- The lesser of each row and the row `J` below it, the rows taken round. -/
def rollMin (v : FVec F S2048x256 .f32) : FVec F S2048x256 .f32 :=
  minimumf v (concatenate S2048x256 0 [⟨⟨2, ![K, 256]⟩, extractStridedSlice ⟨2, ![K, 256]⟩ ![J, 0] v h1⟩,
    ⟨⟨2, ![J, 256]⟩, extractStridedSlice ⟨2, ![J, 256]⟩ ![0, 0] v h2⟩] h3)

/-- The greater of each row and the row `J` above it, the rows taken round. -/
def rollMax (v : FVec F S2048x256 .f32) : FVec F S2048x256 .f32 :=
  maximumf v (concatenate S2048x256 0 [⟨⟨2, ![J, 256]⟩, extractStridedSlice ⟨2, ![J, 256]⟩ ![K, 0] v h4⟩,
    ⟨⟨2, ![K, 256]⟩, extractStridedSlice ⟨2, ![K, 256]⟩ ![0, 0] v h5⟩] h6)

/-- Where the row's number lacks bit `m`, spread over the array. -/
def lacks : IVec S2048x256 1 := spread (cmpi .eq (andi rows (broadcast S2048x1 m)) (broadcast S2048x1 0#32))

/-- The exchange at distance `J` as it is printed with rotations. -/
def roll (v : FVec F S2048x256 .f32) : FVec F S2048x256 .f32 :=
  select (lacks m) (rollMin J K h1 h2 h3 v) (rollMax J K h4 h5 h6 v)

end defs

/-- A spread column of choices at a row. -/
theorem spread_apply (x : IVec S2048x1 1) (r : Fin 2048) (c : Fin 256) : spread x (ix2 r c) = x (ix2 r (0 : Fin 1)) := by
  unfold spread
  pointwise []

set_option maxHeartbeats 4000000 in
/-- The word test of a bit of a row's number. -/
theorem word_bit : ∀ s : Fin 11, ∀ i : Fin (2 ^ 11),
    (BitVec.ofNat 32 i.1 &&& BitVec.ofNat 32 (2 ^ s.1) = 0#32) ↔ i.1 / 2 ^ s.1 % 2 = 0 := by
  decide +kernel

/-- The row's number as a word. -/
theorem rows_apply (i : Fin (2 ^ 11)) : rows (ix2 (row i) (0 : Fin 1)) = BitVec.ofNat 32 i.1 := by
  unfold rows
  pointwise []
  rfl

/-- `hasBit` at a row. -/
theorem hasBit_apply (s : Nat) (hs : s < 11) (m : BitVec 32) (hm : m = BitVec.ofNat 32 (2 ^ s)) (i : Fin (2 ^ 11)) :
    hasBit m (ix2 (row i) (0 : Fin 1)) = BitVec.ofBool (bt s i) := by
  have h := word_bit ⟨s, hs⟩ i
  have e : hasBit m (ix2 (row i) (0 : Fin 1)) = IntOp.cmpi .ne (rows (ix2 (row i) (0 : Fin 1)) &&& m) 0#32 := rfl
  rw [e, rows_apply, hm]
  unfold bt
  by_cases hb : i.1 / 2 ^ s % 2 = 0
  · have h' := h.mpr hb
    simp only at h'
    rw [h']
    have : ¬ i.1 / 2 ^ s % 2 = 1 := by omega
    simp only [this, decide_false]
    rfl
  · have h' : ¬ _ := fun x => hb (h.mp x)
    simp only at h'
    have : i.1 / 2 ^ s % 2 = 1 := by omega
    simp only [this, decide_true]
    generalize BitVec.ofNat 32 i.1 &&& BitVec.ofNat 32 (2 ^ s) = z at h'
    show BitVec.ofBool (z != 0#32) = _
    rw [bne_iff_ne.mpr h']

/-- `lacks` at a row. -/
theorem lacks_apply (s : Nat) (hs : s < 11) (m : BitVec 32) (hm : m = BitVec.ofNat 32 (2 ^ s)) (i : Fin (2 ^ 11)) (c : Fin 256) :
    lacks m (ix2 (row i) c) = BitVec.ofBool (decide (i.1 / 2 ^ s % 2 = 0)) := by
  have h := word_bit ⟨s, hs⟩ i
  unfold lacks
  rw [spread_apply]
  show IntOp.cmpi .eq (rows (ix2 (row i) (0 : Fin 1)) &&& m) 0#32 = _
  rw [rows_apply, hm]
  by_cases hb : i.1 / 2 ^ s % 2 = 0
  · have h' := h.mpr hb
    simp only at h'
    rw [h']
    simp only [hb, decide_true]
    rfl
  · have h' : ¬ _ := fun x => hb (h.mp x)
    simp only at h'
    generalize BitVec.ofNat 32 i.1 &&& BitVec.ofNat 32 (2 ^ s) = z at h'
    show BitVec.ofBool (z == 0#32) = _
    rw [beq_eq_false_iff_ne.mpr h', decide_eq_false hb]

/-- A choice by a word made of a truth value. -/
theorem select_ofBool {α : Type} (b : Bool) (x y : α) : Scalar.select (BitVec.ofBool b) x y = if b then x else y := by
  cases b <;> rfl

/-- THE NEGATION ON A COLUMN. -/
theorem col_flip (x : IVec S2048x1 1) (p : Fin (2 ^ 11) → Bool) (hx : ∀ i, x (ix2 (row i) (0 : Fin 1)) = BitVec.ofBool (p i))
    (v : FVec Ideal S2048x256 .f32) (c : Fin 256) : col (flip x v) c = fl p (col v c) := by
  funext i
  unfold col fl flip
  show Scalar.select (spread x (ix2 (row i) c)) (neg v (ix2 (row i) c)) (v (ix2 (row i) c)) = _
  rw [spread_apply, hx, select_ofBool]
  have : neg v (ix2 (row i) c) = -v (ix2 (row i) c) := by
    show (Ideal.ofBits .f32 0x00000000#32 : EReal) - v (ix2 (row i) c) = _
    rw [Ideal.ofBits_zero_f32, zero_sub]
  rw [this]

/-- THE EXCHANGE BY ROTATIONS ON A COLUMN: it is `ce` too. -/
theorem col_roll (J K : Nat) (m : BitVec 32) (h1 : S2048x256.Slices ![J, 0] ⟨2, ![K, 256]⟩)
    (h2 : S2048x256.Slices ![0, 0] ⟨2, ![J, 256]⟩) (h3 : Shape.Concatenates [⟨2, ![K, 256]⟩, ⟨2, ![J, 256]⟩] S2048x256 0)
    (h4 : S2048x256.Slices ![K, 0] ⟨2, ![J, 256]⟩) (h5 : S2048x256.Slices ![0, 0] ⟨2, ![K, 256]⟩)
    (h6 : Shape.Concatenates [⟨2, ![J, 256]⟩, ⟨2, ![K, 256]⟩] S2048x256 0)
    (s : Nat) (hs : s < 11) (hJ : J = 2 ^ s) (hm : m = BitVec.ofNat 32 (2 ^ s)) (hK : K + J = 2048)
    (v : FVec Ideal S2048x256 .f32) (c : Fin 256) : col (roll J K m h1 h2 h3 h4 h5 h6 v) c = ce s (col v c) := by
  funext i
  have hi : i.1 < 2048 := i.2
  have hp := partner_arith ⟨s, hs⟩ i
  simp only at hp
  have hpl : (partner 11 s i).1 < 2048 := (partner 11 s i).2
  have hJ0 : 0 < J := by rw [hJ]; exact Nat.two_pow_pos s
  unfold col ce roll
  show Scalar.select (lacks m (ix2 (row i) c)) _ _ = _
  rw [lacks_apply s hs m hm, select_ofBool]
  rw [← hJ] at hp ⊢
  by_cases hb : i.1 / J % 2 = 0
  · rw [if_pos hb] at hp ⊢
    simp only [hb, decide_true, if_true]
    show min _ _ = _
    rw [concatenate_pair_apply_left _ _ _ h3 _ rfl (ix2 (⟨i.1, by omega⟩ : Fin K) c) (fun x => by
        match x with
        | ⟨0, _⟩ => rfl
        | ⟨1, _⟩ => rfl),
      extractStridedSlice_apply _ _ h1 _ (ix2 (row (partner 11 s i)) c) (fun x => by
        match x with
        | ⟨0, _⟩ => show (partner 11 s i).1 = J + i.1; omega
        | ⟨1, _⟩ => exact (Nat.zero_add _).symm)]
  · rw [if_neg hb] at hp ⊢
    have hge : J ≤ i.1 := by
      by_contra hlt
      exact hb (by rw [Nat.div_eq_of_lt (by omega)])
    simp only [hb, decide_false]
    show max _ _ = _
    rw [concatenate_pair_apply_right _ _ _ h6 _ rfl rfl (ix2 (⟨i.1 - J, by omega⟩ : Fin K) c) (fun x hx => by
        match x, hx with
        | ⟨0, _⟩, hx => exact absurd rfl hx
        | ⟨1, _⟩, _ => rfl) (by show i.1 - J + J = i.1; omega),
      extractStridedSlice_apply _ _ h5 _ (ix2 (row (partner 11 s i)) c) (fun x => by
        match x with
        | ⟨0, _⟩ => show (partner 11 s i).1 = 0 + (i.1 - J); omega
        | ⟨1, _⟩ => exact (Nat.zero_add _).symm)]

end Cert.Proof.Stages

end
-- ==== Proof.Steps.lean ====
/-
  The kernel's sort as its steps. Between the two products the printed body runs 66 exchanges and 10 negations, cut by the printing
  into groups of operations in which a step may begin in one group and end in the next. Each theorem here takes such groups
  together and says which steps they are.
-/
module

public import proofs.«01_k».proof.Proof.Rows

@[expose] public section

set_option maxRecDepth 16384

noncomputable section

namespace Cert.Proof.Stages

open Cert.KernelIdeal Cert.KernelIdeal.Gen Idealize.ShloMosaic

variable {F : FTy → Type} [FloatOps F]

/-! ## The exchange at each distance -/

/-- The exchange at distance 8. -/
def e8 (v : FVec F S2048x256 .f32) : FVec F S2048x256 .f32 :=
  exch 128 8 shapeCasts_S2048x256_S128x2x8x256 slices_S128x2x8x256_o0_0_0_0_S128x1x8x256 slices_S128x2x8x256_o0_1_0_0_S128x1x8x256
    shapeCasts_S128x1x8x256_S128x8x256 shapeCasts_S128x8x256_S128x1x8x256
    concatenates_S128x1x8x256_S128x1x8x256_S128x2x8x256_d1 shapeCasts_S128x2x8x256_S2048x256 v

/-- The exchange at distance 16. -/
def e16 (v : FVec F S2048x256 .f32) : FVec F S2048x256 .f32 :=
  exch 64 16 shapeCasts_S2048x256_S64x2x16x256 slices_S64x2x16x256_o0_0_0_0_S64x1x16x256 slices_S64x2x16x256_o0_1_0_0_S64x1x16x256
    shapeCasts_S64x1x16x256_S64x16x256 shapeCasts_S64x16x256_S64x1x16x256
    concatenates_S64x1x16x256_S64x1x16x256_S64x2x16x256_d1 shapeCasts_S64x2x16x256_S2048x256 v

/-- The exchange at distance 32. -/
def e32 (v : FVec F S2048x256 .f32) : FVec F S2048x256 .f32 :=
  exch 32 32 shapeCasts_S2048x256_S32x2x32x256 slices_S32x2x32x256_o0_0_0_0_S32x1x32x256 slices_S32x2x32x256_o0_1_0_0_S32x1x32x256
    shapeCasts_S32x1x32x256_S32x32x256 shapeCasts_S32x32x256_S32x1x32x256
    concatenates_S32x1x32x256_S32x1x32x256_S32x2x32x256_d1 shapeCasts_S32x2x32x256_S2048x256 v

/-- The exchange at distance 64. -/
def e64 (v : FVec F S2048x256 .f32) : FVec F S2048x256 .f32 :=
  exch 16 64 shapeCasts_S2048x256_S16x2x64x256 slices_S16x2x64x256_o0_0_0_0_S16x1x64x256 slices_S16x2x64x256_o0_1_0_0_S16x1x64x256
    shapeCasts_S16x1x64x256_S16x64x256 shapeCasts_S16x64x256_S16x1x64x256
    concatenates_S16x1x64x256_S16x1x64x256_S16x2x64x256_d1 shapeCasts_S16x2x64x256_S2048x256 v

/-- The exchange at distance 128. -/
def e128 (v : FVec F S2048x256 .f32) : FVec F S2048x256 .f32 :=
  exch 8 128 shapeCasts_S2048x256_S8x2x128x256 slices_S8x2x128x256_o0_0_0_0_S8x1x128x256 slices_S8x2x128x256_o0_1_0_0_S8x1x128x256
    shapeCasts_S8x1x128x256_S8x128x256 shapeCasts_S8x128x256_S8x1x128x256
    concatenates_S8x1x128x256_S8x1x128x256_S8x2x128x256_d1 shapeCasts_S8x2x128x256_S2048x256 v

/-- The exchange at distance 256. -/
def e256 (v : FVec F S2048x256 .f32) : FVec F S2048x256 .f32 :=
  exch 4 256 shapeCasts_S2048x256_S4x2x256x256 slices_S4x2x256x256_o0_0_0_0_S4x1x256x256 slices_S4x2x256x256_o0_1_0_0_S4x1x256x256
    shapeCasts_S4x1x256x256_S4x256x256 shapeCasts_S4x256x256_S4x1x256x256
    concatenates_S4x1x256x256_S4x1x256x256_S4x2x256x256_d1 shapeCasts_S4x2x256x256_S2048x256 v

/-- The exchange at distance 512. -/
def e512 (v : FVec F S2048x256 .f32) : FVec F S2048x256 .f32 :=
  exch 2 512 shapeCasts_S2048x256_S2x2x512x256 slices_S2x2x512x256_o0_0_0_0_S2x1x512x256 slices_S2x2x512x256_o0_1_0_0_S2x1x512x256
    shapeCasts_S2x1x512x256_S2x512x256 shapeCasts_S2x512x256_S2x1x512x256
    concatenates_S2x1x512x256_S2x1x512x256_S2x2x512x256_d1 shapeCasts_S2x2x512x256_S2048x256 v

/-- The exchange at distance 1024. -/
def e1024 (v : FVec F S2048x256 .f32) : FVec F S2048x256 .f32 :=
  exch 1 1024 shapeCasts_S2048x256_S1x2x1024x256 slices_S1x2x1024x256_o0_0_0_0_S1x1x1024x256 slices_S1x2x1024x256_o0_1_0_0_S1x1x1024x256
    shapeCasts_S1x1x1024x256_S1x1024x256 shapeCasts_S1x1024x256_S1x1x1024x256
    concatenates_S1x1x1024x256_S1x1x1024x256_S1x2x1024x256_d1 shapeCasts_S1x2x1024x256_S2048x256 v

/-- The exchange at distance 1. -/
def e1 (v : FVec F S2048x256 .f32) : FVec F S2048x256 .f32 :=
  roll 1 2047 1#32 slices_S2048x256_o1_0_S2047x256 slices_S2048x256_o0_0_S1x256 concatenates_S2047x256_S1x256_S2048x256_d0
    slices_S2048x256_o2047_0_S1x256 slices_S2048x256_o0_0_S2047x256 concatenates_S1x256_S2047x256_S2048x256_d0 v

/-- The exchange at distance 2. -/
def e2 (v : FVec F S2048x256 .f32) : FVec F S2048x256 .f32 :=
  roll 2 2046 2#32 slices_S2048x256_o2_0_S2046x256 slices_S2048x256_o0_0_S2x256 concatenates_S2046x256_S2x256_S2048x256_d0
    slices_S2048x256_o2046_0_S2x256 slices_S2048x256_o0_0_S2046x256 concatenates_S2x256_S2046x256_S2048x256_d0 v

/-- The exchange at distance 4. -/
def e4 (v : FVec F S2048x256 .f32) : FVec F S2048x256 .f32 :=
  roll 4 2044 4#32 slices_S2048x256_o4_0_S2044x256 slices_S2048x256_o0_0_S4x256 concatenates_S2044x256_S4x256_S2048x256_d0
    slices_S2048x256_o2044_0_S4x256 slices_S2048x256_o0_0_S2044x256 concatenates_S4x256_S2044x256_S2048x256_d0 v

/-- The negation of the rows that have just one of the bits `m` and `m'`. -/
def flip2 (m m' : BitVec 32) (v : FVec F S2048x256 .f32) : FVec F S2048x256 .f32 := flip (xori (hasBit m) (hasBit m')) v

/-- The negation of the rows that have bit `m`. -/
def flip1 (m : BitVec 32) (v : FVec F S2048x256 .f32) : FVec F S2048x256 .f32 := flip (hasBit m) v

/-! ## The printed groups as steps -/

/-- The exchange of level 1. Level `a` exchanges at distance `2 ^ (11 - a)`, then at twice that, and so on up to 1024. -/
def m1 (v : FVec F S2048x256 .f32) : FVec F S2048x256 .f32 := e1024 v
/-- The exchanges of level 2. -/
def m2 (v : FVec F S2048x256 .f32) : FVec F S2048x256 .f32 := m1 (e512 v)
/-- The exchanges of level 3. -/
def m3 (v : FVec F S2048x256 .f32) : FVec F S2048x256 .f32 := m2 (e256 v)
/-- The exchanges of level 4. -/
def m4 (v : FVec F S2048x256 .f32) : FVec F S2048x256 .f32 := m3 (e128 v)
/-- The exchanges of level 5. -/
def m5 (v : FVec F S2048x256 .f32) : FVec F S2048x256 .f32 := m4 (e64 v)
/-- The exchanges of level 6. -/
def m6 (v : FVec F S2048x256 .f32) : FVec F S2048x256 .f32 := m5 (e32 v)
/-- The exchanges of level 7. -/
def m7 (v : FVec F S2048x256 .f32) : FVec F S2048x256 .f32 := m6 (e16 v)
/-- The exchanges of level 8. -/
def m8 (v : FVec F S2048x256 .f32) : FVec F S2048x256 .f32 := m7 (e8 v)
/-- The exchanges of level 9. -/
def m9 (v : FVec F S2048x256 .f32) : FVec F S2048x256 .f32 := m8 (e4 v)
/-- The exchanges of level 10. -/
def m10 (v : FVec F S2048x256 .f32) : FVec F S2048x256 .f32 := m9 (e2 v)
/-- The exchanges of level 11. -/
def m11 (v : FVec F S2048x256 .f32) : FVec F S2048x256 .f32 := m10 (e1 v)

/-- The projections the kernel sorts: the batch's rows times the normalised directions. -/
def proj (th : FVec F S256x512 .f32) (x : FVec F S1x2048x512 .f32) : FVec F S2048x256 .f32 :=
  matmul dot_S2048x512_S256x512_S2048x256_1_1_0_0_n_n none (shapeCast S2048x512 x shapeCasts_S1x2048x512_S2048x512)
    (mulf th (broadcastTo S256x512 (rsqrt (shapeCast S256x1
      (multiReduction .add [1] S256 (mulf th th) 0x00000000#32 reduces_S256x512_S256 (.inl rfl) rfl) shapeCasts_S256_S256x1))
      broadcasts_S256x1_S256x512))
    (constant S2048x256 .f32 0x00000000#32)

/-- The first printed values: the first level, done. -/
theorem first_level (th : FVec F S256x512 .f32) (x : FVec F S1x2048x512 .f32) : k0_pay2 th x = m1 (flip1 512#32 (proj th x)) := rfl

/-- The two values a cut leaves beside it: the negated array and the rows to take it at. -/
theorem first_neg (th : FVec F S256x512 .f32) (x : FVec F S1x2048x512 .f32) : k0_pay3 th x = neg (k0_pay2 th x) := rfl

/-- The rows that the second level negates. -/
theorem second_rows : k0_pay4 = shapeCast S2048x1 (xori (hasBit 512#32) (hasBit 256#32)) shapeCasts_S2048x1_S2048x1 := rfl

/-- The groups up to level 5's exchange at distance 128. -/
theorem group_a (v : FVec F S2048x256 .f32) :
    k0_pay11 rows (k0_pay9 rows (k0_pay6 rows v (neg v) k0_pay4) (k0_pay7 rows v (neg v) k0_pay4) (k0_pay8 rows v (neg v) k0_pay4))
      (k0_pay10 rows (k0_pay6 rows v (neg v) k0_pay4) (k0_pay7 rows v (neg v) k0_pay4) (k0_pay8 rows v (neg v) k0_pay4))
    = e128 (e64 (flip2 64#32 32#32 (m4 (flip2 128#32 64#32 (m3 (flip2 256#32 128#32 (m2 (flip2 512#32 256#32 v)))))))) := rfl

/-- The groups from there to level 8's exchange at distance 256. -/
theorem group_b (v : FVec F S2048x256 .f32) (u : FVec F S8x2x128x256 .f32)
    (hu : u = k0_pay19 rows (k0_pay17 (k0_pay15 rows v) (k0_pay16 rows v)) k0_pay18) :
    k0_pay24 (k0_pay21 rows u) (k0_pay22 rows u) (k0_pay23 rows u)
    = shapeCast S2x2x512x256 (e256 (e128 (e64 (e32 (e16 (e8 (flip2 8#32 4#32 (m7 (flip2 16#32 8#32 (m6 (flip2 32#32 16#32
        (e1024 (e512 (e256 v)))))))))))))) shapeCasts_S2048x256_S2x2x512x256 := by
  subst hu; rfl

/-- The groups from there to level 9's exchange at distance 256, at the point where its two halves are set apart. -/
theorem group_c (v : FVec F S2048x256 .f32) (u : FVec F S2x2x512x256 .f32)
    (hu : u = shapeCast S2x2x512x256 v shapeCasts_S2048x256_S2x2x512x256) :
    k0_pay32 rows (k0_pay30 (k0_pay25 rows u) (k0_pay26 rows u)) (k0_pay31 (k0_pay25 rows u) (k0_pay26 rows u))
    = flip2 2#32 1#32 (e1024 (e512 (e256 (e128 (e64 (e32 (e16 (e8 (e4 (flip2 4#32 2#32 (e1024 (e512 v))))))))))) ) := by
  subst hu; rfl

/-- The groups from there to level 11's exchange at distance 8. -/
theorem group_d (a : FVec F S4x1x256x256 .f32) (b : FVec F S4x256x256 .f32) :
    k0_pay43 rows (k0_pay41 rows
        (k0_pay39 rows (k0_pay33 rows a b) (k0_pay34 rows a b) (k0_pay35 rows))
        (k0_pay40 rows (k0_pay33 rows a b) (k0_pay34 rows a b) (k0_pay35 rows))) k0_pay42
    = e8 (e4 (e2 (e1 (flip1 1#32 (m10 (k0_pay32 rows a b)))))) := rfl

/-- The weighted sum the kernel stores: the weights times the reference points, less the weights times the matrix times the
    sorted projections. -/
def combine (srt : FVec F S2048x256 .f32) (w : FVec F S1x256 .f32) (a : FVec F S256x2048 .f32) (ref : FVec F S256x256 .f32) :
    FVec F S1x1x256 .f32 :=
  shapeCast S1x1x256 (subf
    (matmul dot_S1x256_S256x256_S1x256_1_0_0_1_n_n (some .fp32) w ref (constant S1x256 .f32 0x00000000#32))
    (matmul dot_S1x2048_S2048x256_S1x256_1_0_0_1_n_n (some .fp32)
      (matmul dot_S1x256_S256x2048_S1x2048_1_0_0_1_n_n (some .fp32) w (shapeCast S256x2048 a shapeCasts_S256x2048_S256x2048)
        (constant S1x2048 .f32 0x00000000#32))
      srt (constant S1x256 .f32 0x00000000#32))) shapeCasts_S1x256_S1x1x256

/-- The last groups: the rest of level 11 and the weighted sum. -/
theorem group_e (v : FVec F S2048x256 .f32) (w : FVec F S1x256 .f32) (a : FVec F S256x2048 .f32) (ref : FVec F S256x256 .f32) :
    k0_pay1 (k0_pay45 v) (k0_pay46 v) w a ref
    = combine (e1024 (e512 (e256 (e128 (e64 (e32 (e16 v))))))) w a ref := rfl

/-- The kernel's sort, as its steps. -/
def sorted (v : FVec F S2048x256 .f32) : FVec F S2048x256 .f32 :=
  m11 (flip1 1#32 (m10 (flip2 2#32 1#32 (m9 (flip2 4#32 2#32 (m8 (flip2 8#32 4#32 (m7 (flip2 16#32 8#32 (m6 (flip2 32#32 16#32
    (m5 (flip2 64#32 32#32 (m4 (flip2 128#32 64#32 (m3 (flip2 256#32 128#32 (m2 (flip2 512#32 256#32 (m1 (flip1 512#32 v)))))))))))))))))))))

end Cert.Proof.Stages

end
-- ==== Proof.Bits.lean ====
/-
  The row numbers with their bits in the opposite order: facts about the numbers below 2048, each decided by going through them.
-/
module

public import proofs.«01_k».proof.Proof.Stages

@[expose] public section

set_option maxRecDepth 16384

noncomputable section

namespace Cert.Proof.Stages

open Idealize.ShloMosaic Idealize.ShloMosaic.SortNet

/-- A number below 2048 with its 11 bits in the opposite order. -/
def rv (i : Fin (2 ^ 11)) : Fin (2 ^ 11) :=
  ⟨(List.range 11).foldl (fun a s => 2 * a + i.1 / 2 ^ s % 2) 0 % 2 ^ 11, Nat.mod_lt _ (by decide)⟩

set_option maxHeartbeats 4000000 in
/-- Reversing twice changes nothing. -/
theorem rv_rv : ∀ i : Fin (2 ^ 11), rv (rv i) = i := by decide +kernel

set_option maxHeartbeats 4000000 in
/-- Bit `s` of the reversed number is bit `10 - s` of the number. -/
theorem bt_rv : ∀ s : Fin 11, ∀ i : Fin (2 ^ 11), (rv i).1 / 2 ^ s.1 % 2 = i.1 / 2 ^ (10 - s.1) % 2 := by decide +kernel

set_option maxHeartbeats 4000000 in
/-- The partner of the reversed number at bit `s` is the reverse of the partner at bit `10 - s`. -/
theorem partner_rv : ∀ s : Fin 11, ∀ i : Fin (2 ^ 11), partner 11 s.1 (rv i) = rv (partner 11 (10 - s.1) i) := by decide +kernel

set_option maxHeartbeats 4000000 in
/-- The test of a bit by a mask. -/
theorem and_bit : ∀ s : Fin 12, ∀ i : Fin (2 ^ 11), (i.1 &&& 2 ^ s.1 = 0) ↔ i.1 / 2 ^ s.1 % 2 = 0 := by decide +kernel

set_option maxHeartbeats 4000000 in
/-- The partner has the bit where the number lacks it, and the other way about. -/
theorem bit_partner : ∀ s : Fin 11, ∀ i : Fin (2 ^ 11), (partner 11 s.1 i).1 / 2 ^ s.1 % 2 = 1 - i.1 / 2 ^ s.1 % 2 := by decide +kernel

set_option maxHeartbeats 4000000 in
/-- The partner's partner is the number itself. -/
theorem partner_twice : ∀ s : Fin 11, ∀ i : Fin (2 ^ 11), partner 11 s.1 (partner 11 s.1 i) = i := by decide +kernel

end Cert.Proof.Stages

end
-- ==== Proof.Net.lean ====
/-
  The kernel's sort on a column is Batcher's. The kernel keeps logical position `p` at the row whose number is `p` with its 11 bits
  in the opposite order, and instead of exchanging some pairs the other way it negates them beforehand and back afterwards.
  Read through the reversed numbers, with the negations accounted for, its steps are the stages of the library's `sortNet`.
-/
module

public import proofs.«01_k».proof.Proof.Bits
public import Idealize.ShloMosaic.Lib.SortNet.Sorts

@[expose] public section

set_option maxRecDepth 16384

noncomputable section

namespace Cert.Proof.Stages

open Idealize.ShloMosaic Idealize.ShloMosaic.SortNet

/-- Negation turns the lesser into the greater. -/
theorem neg_min' (a b : EReal) : -min a b = max (-a) (-b) :=
  Antitone.map_min (f := fun x : EReal => -x) fun _ _ h => EReal.neg_le_neg_iff.mpr h

/-- Negation turns the greater into the lesser. -/
theorem neg_max' (a b : EReal) : -max a b = min (-a) (-b) :=
  Antitone.map_max (f := fun x : EReal => -x) fun _ _ h => EReal.neg_le_neg_iff.mpr h

/-- The partner at a lower bit keeps the higher bits. -/
theorem high_partner (s : Fin 11) (t : Fin 12) (h : s.1 < t.1) (i : Fin (2 ^ 11)) :
    (partner 11 s.1 i).1 / 2 ^ t.1 % 2 = i.1 / 2 ^ t.1 % 2 := by
  rw [partner_val s.2, ← Nat.shiftRight_eq_div_pow, Nat.shiftRight_xor_distrib, Nat.shiftRight_eq_div_pow (2 ^ s.1),
    Nat.div_eq_of_lt (Nat.pow_lt_pow_right (by decide) h), Nat.xor_zero, Nat.shiftRight_eq_div_pow]

/-- The signs a column carries after `n` levels, at logical positions: negated where bit `n` is set, and nowhere before the first
    level. (Bit 11 is set nowhere.) -/
def sg (n : Nat) (p : Fin (2 ^ 11)) : Bool := decide (0 < n) && bt n p

/-- A column seen at logical positions, with the signs of level `n` taken off. -/
def lg (n : Nat) (w : Fin (2 ^ 11) → EReal) : Fin (2 ^ 11) → EReal := fl (sg n) (fun p => w (rv p))

/-- One stage of the library's network, position by position. -/
theorem apply_stage_at (s : Nat) (hs : s < 11) (W : Fin (2 ^ 11) → Bool) (v : Fin (2 ^ 11) → EReal) (p : Fin (2 ^ 11))
    (hW : W (partner 11 s p) = W p) :
    Network.apply (stage 11 s W) v p
      = if (p.1 / 2 ^ s % 2 = 0) = (W p = true) then max (v p) (v (partner 11 s p)) else min (v p) (v (partner 11 s p)) := by
  by_cases h : p.1 / 2 ^ s % 2 = 0
  · rw [(apply_stage hs W v p ((and_bit ⟨s, by omega⟩ p).mpr h)).1]
    by_cases hw : W p <;> simp [h, hw]
  · have h1 : (partner 11 s p).1 / 2 ^ s % 2 = 0 := by
      have := bit_partner ⟨s, hs⟩ p
      simp only at this; omega
    have e := partner_twice ⟨s, hs⟩ p
    simp only at e
    have := (apply_stage hs W v (partner 11 s p) ((and_bit ⟨s, by omega⟩ _).mpr h1)).2
    rw [e, hW] at this
    rw [this]
    by_cases hw : W p <;> simp [h, hw, max_comm, min_comm]

/-- The direction of level `l` of the ascending sort. -/
def win (l : Nat) (p : Fin (2 ^ 11)) : Bool := decide (p.1 &&& 2 ^ (l + 1) = 0) == false

/-- The direction as a bit. -/
theorem win_eq (l : Nat) (hl : l < 11) (p : Fin (2 ^ 11)) : win l p = sg (l + 1) p := by
  unfold win sg bt
  have h := and_bit ⟨l + 1, by omega⟩ p
  simp only at h
  by_cases h0 : p.1 / 2 ^ (l + 1) % 2 = 0
  · simp [h.mpr h0, h0]
  · have h1 : p.1 / 2 ^ (l + 1) % 2 = 1 := by omega
    have : ¬ p.1 &&& 2 ^ (l + 1) = 0 := fun x => h0 (h.mp x)
    simp [this, h1]

/-- ONE EXCHANGE IS ONE STAGE: within level `l`, the exchange at bit `10 - t` is the library's stage `t` at logical positions. -/
theorem lg_ce (l t : Nat) (hl : l < 11) (ht : t ≤ l) (w : Fin (2 ^ 11) → EReal) :
    lg (l + 1) (ce (10 - t) w) = Network.apply (stage 11 t (win l)) (lg (l + 1) w) := by
  funext p
  have hk : win l (partner 11 t p) = win l p := by
    rw [win_eq l hl, win_eq l hl]
    unfold sg bt
    rw [show (partner 11 t p).1 / 2 ^ (l + 1) % 2 = p.1 / 2 ^ (l + 1) % 2 from
      high_partner ⟨t, by omega⟩ ⟨l + 1, by omega⟩ (show t < l + 1 by omega) p]
  rw [apply_stage_at t (by omega) _ _ p hk]
  rw [win_eq l hl, win_eq l hl] at hk
  have hb : (rv p).1 / 2 ^ (10 - t) % 2 = p.1 / 2 ^ t % 2 := by
    have := bt_rv ⟨10 - t, by omega⟩ p
    rwa [show 10 - (10 - t) = t by omega] at this
  have hq : partner 11 (10 - t) (rv p) = rv (partner 11 t p) := by
    have := partner_rv ⟨10 - t, by omega⟩ p
    rwa [show 10 - (10 - t) = t by omega] at this
  rw [win_eq l hl]
  unfold lg fl ce
  dsimp only
  rw [hb, hq, hk]
  by_cases h0 : p.1 / 2 ^ t % 2 = 0 <;> by_cases h1 : sg (l + 1) p <;>
    simp [h0, h1, neg_min', neg_max']

/-- The exchanges of level `l`, physically: at bit `10 - l` first, up to bit 10. -/
def mg : Nat → (Fin (2 ^ 11) → EReal) → Fin (2 ^ 11) → EReal
  | 0, w => ce 10 w
  | l + 1, w => mg l (ce (10 - (l + 1)) w)

/-- The exchanges of a level are the level's stages. -/
theorem lg_mg (l : Nat) (hl : l < 11) : ∀ (t : Nat) (_ : t ≤ l) (w : Fin (2 ^ 11) → EReal),
    lg (l + 1) (mg t w) = Network.apply ((List.range (t + 1)).reverse.flatMap fun s => stage 11 s (win l)) (lg (l + 1) w)
  | 0, ht, w => by
      have := lg_ce l 0 hl ht w
      simpa [mg] using this
  | t + 1, ht, w => by
      have ih := lg_mg l hl t (by omega) (ce (10 - (t + 1)) w)
      rw [lg_ce l (t + 1) hl ht w] at ih
      rw [List.range_succ, List.reverse_append, List.flatMap_append, Network.apply_append]
      simpa [mg] using ih

/-- The rows negated before level `l`: those whose sign differs between the levels. -/
def ng (l : Nat) (i : Fin (2 ^ 11)) : Bool := xor (sg l (rv i)) (sg (l + 1) (rv i))

/-- The negation before level `l` changes the signs of level `l` into those of level `l + 1`. -/
theorem lg_fl (l : Nat) (w : Fin (2 ^ 11) → EReal) : lg (l + 1) (fl (ng l) w) = lg l w := by
  funext p
  unfold lg fl ng
  dsimp only
  rw [rv_rv]
  by_cases h0 : sg l p <;> by_cases h1 : sg (l + 1) p <;> simp [h0, h1]

/-- The first `n` levels of the kernel's sort of a column. -/
def srt : Nat → (Fin (2 ^ 11) → EReal) → Fin (2 ^ 11) → EReal
  | 0, w => w
  | l + 1, w => mg l (fl (ng l) (srt l w))

/-- The first `n` levels are the library's. -/
theorem lg_srt : ∀ (n : Nat) (_ : n ≤ 11) (w : Fin (2 ^ 11) → EReal),
    lg n (srt n w) = Network.apply ((List.range n).flatMap fun l => (List.range (l + 1)).reverse.flatMap fun s => stage 11 s (win l)) (lg 0 w)
  | 0, _, w => rfl
  | l + 1, h, w => by
      rw [List.range_succ, List.flatMap_append, Network.apply_append, ← lg_srt l (by omega) w, ← lg_fl l (srt l w)]
      have := lg_mg l (by omega) l (le_refl l) (fl (ng l) (srt l w))
      simpa [srt] using this

/-- The signs are gone after the last level. -/
theorem lg_eleven (w : Fin (2 ^ 11) → EReal) : lg 11 w = fun p => w (rv p) := by
  funext p
  unfold lg fl sg bt
  have h : p.1 / 2 ^ 11 = 0 := Nat.div_eq_of_lt p.2
  rw [h]
  simp

/-- There are none before the first. -/
theorem lg_zero (w : Fin (2 ^ 11) → EReal) : lg 0 w = fun p => w (rv p) := by
  funext p
  unfold lg fl sg
  simp

/-- THE SORT: at logical positions the kernel's sorted column is the library's network applied to the column. -/
theorem srt_net (w : Fin (2 ^ 11) → EReal) (p : Fin (2 ^ 11)) :
    srt 11 w (rv p) = Network.apply (sortNet 11 false) (fun q => w (rv q)) p := by
  have := lg_srt 11 (le_refl _) w
  rw [lg_eleven, lg_zero] at this
  exact congrFun this p

/-- The sorted column ascends along logical positions. -/
theorem srt_monotone (w : Fin (2 ^ 11) → EReal) : Monotone fun p => srt 11 w (rv p) := by
  intro a b h
  show srt 11 w (rv a) ≤ srt 11 w (rv b)
  rw [srt_net, srt_net]
  exact sortNet_apply_monotone 11 _ h

/-- The sorted column is a rearrangement of the column. -/
theorem srt_perm (w : Fin (2 ^ 11) → EReal) : ∃ σ : Equiv.Perm (Fin (2 ^ 11)), (fun p => srt 11 w (rv p)) = w ∘ σ := by
  obtain ⟨σ, h⟩ := Network.exists_perm (sortNet 11 false) (fun q => w (rv q))
  refine ⟨σ.trans ⟨rv, rv, rv_rv, rv_rv⟩, ?_⟩
  funext p
  rw [srt_net, h]
  rfl

end Cert.Proof.Stages

end
-- ==== Proof.Column.lean ====
/-
  The kernel's sort is the sort: on every column its printed steps are the levels of `srt`.
-/
module

public import proofs.«01_k».proof.Proof.Steps
public import proofs.«01_k».proof.Proof.Net

@[expose] public section

set_option maxRecDepth 16384

noncomputable section

namespace Cert.Proof.Stages

open Cert.KernelIdeal Cert.KernelIdeal.Gen Idealize.ShloMosaic Idealize.ShloMosaic.SortNet

/-- Before the first level: the rows with logical bit 1. -/
theorem ng_first : ng 0 = bt 9 := by
  funext i
  have h := bt_rv 1 i
  simp only [Fin.val_one] at h
  unfold ng sg bt
  rw [h]
  simp

/-- Before a middle level: the rows with just one of two neighbouring logical bits. -/
theorem ng_mid (l : Nat) (h0 : 0 < l) (h1 : l < 10) : ng l = fun i => xor (bt (10 - l) i) (bt (9 - l) i) := by
  funext i
  have h := bt_rv ⟨l, by omega⟩ i
  have h' := bt_rv ⟨l + 1, by omega⟩ i
  simp only at h h'
  rw [show 10 - (l + 1) = 9 - l by omega] at h'
  unfold ng sg bt
  rw [h, h']
  simp [h0]

/-- Before the last level: the rows with logical bit 10. -/
theorem ng_last : ng 10 = bt 0 := by
  funext i
  have h := bt_rv 10 i
  simp only [show (10 : Fin 11).1 = 10 from rfl] at h
  have h' : (rv i).1 / 2 ^ 11 = 0 := Nat.div_eq_of_lt (rv i).2
  unfold ng sg bt
  rw [h, h']
  simp

/-- The negation of the rows with one of two bits, on a column. -/
theorem col_flip2 (s s' : Nat) (hs : s < 11) (hs' : s' < 11) (m m' : BitVec 32) (hm : m = BitVec.ofNat 32 (2 ^ s))
    (hm' : m' = BitVec.ofNat 32 (2 ^ s')) (v : FVec Ideal S2048x256 .f32) (c : Fin 256) :
    col (flip2 m m' v) c = fl (fun i => xor (bt s i) (bt s' i)) (col v c) := by
  refine col_flip _ _ (fun i => ?_) v c
  show hasBit m (ix2 (row i) (0 : Fin 1)) ^^^ hasBit m' (ix2 (row i) (0 : Fin 1)) = _
  rw [hasBit_apply s hs m hm, hasBit_apply s' hs' m' hm']
  cases bt s i <;> cases bt s' i <;> rfl

/-- The negation of the rows with one bit, on a column. -/
theorem col_flip1 (s : Nat) (hs : s < 11) (m : BitVec 32) (hm : m = BitVec.ofNat 32 (2 ^ s)) (v : FVec Ideal S2048x256 .f32) (c : Fin 256) :
    col (flip1 m v) c = fl (bt s) (col v c) :=
  col_flip _ _ (fun i => hasBit_apply s hs m hm i) v c

section

variable (v : FVec Ideal S2048x256 .f32) (c : Fin 256)

/-! ## The exchanges on a column -/

theorem col_e1 : col (e1 v) c = ce 0 (col v c) := col_roll 1 2047 _ _ _ _ _ _ _ 0 (by decide) rfl rfl rfl v c
theorem col_e2 : col (e2 v) c = ce 1 (col v c) := col_roll 2 2046 _ _ _ _ _ _ _ 1 (by decide) rfl rfl rfl v c
theorem col_e4 : col (e4 v) c = ce 2 (col v c) := col_roll 4 2044 _ _ _ _ _ _ _ 2 (by decide) rfl rfl rfl v c
theorem col_e8 : col (e8 v) c = ce 3 (col v c) := col_exch 128 8 _ _ _ _ _ _ _ v 3 (by decide) rfl rfl c
theorem col_e16 : col (e16 v) c = ce 4 (col v c) := col_exch 64 16 _ _ _ _ _ _ _ v 4 (by decide) rfl rfl c
theorem col_e32 : col (e32 v) c = ce 5 (col v c) := col_exch 32 32 _ _ _ _ _ _ _ v 5 (by decide) rfl rfl c
theorem col_e64 : col (e64 v) c = ce 6 (col v c) := col_exch 16 64 _ _ _ _ _ _ _ v 6 (by decide) rfl rfl c
theorem col_e128 : col (e128 v) c = ce 7 (col v c) := col_exch 8 128 _ _ _ _ _ _ _ v 7 (by decide) rfl rfl c
theorem col_e256 : col (e256 v) c = ce 8 (col v c) := col_exch 4 256 _ _ _ _ _ _ _ v 8 (by decide) rfl rfl c
theorem col_e512 : col (e512 v) c = ce 9 (col v c) := col_exch 2 512 _ _ _ _ _ _ _ v 9 (by decide) rfl rfl c
theorem col_e1024 : col (e1024 v) c = ce 10 (col v c) := col_exch 1 1024 _ _ _ _ _ _ _ v 10 (by decide) rfl rfl c

/-! ## The levels on a column -/

theorem col_m1 : col (m1 v) c = mg 0 (col v c) := col_e1024 v c
theorem col_m2 : col (m2 v) c = mg 1 (col v c) := (col_m1 _ c).trans (congrArg (mg 0) (col_e512 v c))
theorem col_m3 : col (m3 v) c = mg 2 (col v c) := (col_m2 _ c).trans (congrArg (mg 1) (col_e256 v c))
theorem col_m4 : col (m4 v) c = mg 3 (col v c) := (col_m3 _ c).trans (congrArg (mg 2) (col_e128 v c))
theorem col_m5 : col (m5 v) c = mg 4 (col v c) := (col_m4 _ c).trans (congrArg (mg 3) (col_e64 v c))
theorem col_m6 : col (m6 v) c = mg 5 (col v c) := (col_m5 _ c).trans (congrArg (mg 4) (col_e32 v c))
theorem col_m7 : col (m7 v) c = mg 6 (col v c) := (col_m6 _ c).trans (congrArg (mg 5) (col_e16 v c))
theorem col_m8 : col (m8 v) c = mg 7 (col v c) := (col_m7 _ c).trans (congrArg (mg 6) (col_e8 v c))
theorem col_m9 : col (m9 v) c = mg 8 (col v c) := (col_m8 _ c).trans (congrArg (mg 7) (col_e4 v c))
theorem col_m10 : col (m10 v) c = mg 9 (col v c) := (col_m9 _ c).trans (congrArg (mg 8) (col_e2 v c))
theorem col_m11 : col (m11 v) c = mg 10 (col v c) := (col_m10 _ c).trans (congrArg (mg 9) (col_e1 v c))

/-- THE KERNEL'S SORT ON A COLUMN. -/
theorem col_sorted : col (sorted v) c = srt 11 (col v c) := by
  unfold sorted
  rw [col_m11, col_flip1 0 (by decide) 1#32 rfl, col_m10, col_flip2 1 0 (by decide) (by decide) 2#32 1#32 rfl rfl,
    col_m9, col_flip2 2 1 (by decide) (by decide) 4#32 2#32 rfl rfl,
    col_m8, col_flip2 3 2 (by decide) (by decide) 8#32 4#32 rfl rfl,
    col_m7, col_flip2 4 3 (by decide) (by decide) 16#32 8#32 rfl rfl,
    col_m6, col_flip2 5 4 (by decide) (by decide) 32#32 16#32 rfl rfl,
    col_m5, col_flip2 6 5 (by decide) (by decide) 64#32 32#32 rfl rfl,
    col_m4, col_flip2 7 6 (by decide) (by decide) 128#32 64#32 rfl rfl,
    col_m3, col_flip2 8 7 (by decide) (by decide) 256#32 128#32 rfl rfl,
    col_m2, col_flip2 9 8 (by decide) (by decide) 512#32 256#32 rfl rfl,
    col_m1, col_flip1 9 (by decide) 512#32 rfl]
  simp only [srt]
  rw [ng_mid 1 (by decide) (by decide), ng_mid 2 (by decide) (by decide), ng_mid 3 (by decide) (by decide), ng_mid 4 (by decide) (by decide), ng_mid 5 (by decide) (by decide), ng_mid 6 (by decide) (by decide), ng_mid 7 (by decide) (by decide), ng_mid 8 (by decide) (by decide), ng_mid 9 (by decide) (by decide), ng_first, ng_last]

end

end Cert.Proof.Stages

end
-- ==== Proof.Kernel.lean ====
/-
  What the kernel's array holds. At batch `b` and direction `s` it is the weights times the reference points of `s`, less the weights
  times the matrix times the sorted projections of batch `b` on direction `s`.
-/
module

public import proofs.«01_k».proof.Proof.Column
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Proof.Kernel

open Cert.KernelIdeal Cert.KernelIdeal.Gen Cert.Proof.Stages Idealize.ShloMosaic Idealize.ShloMosaic.TcCoe Idealize.SL.Sem
open Idealize.ShloMosaic.Pipeline (Dat)

/-! ## The body's result as steps -/

section body

variable {F : FTy → Type} [FloatOps F]
variable (x0 : Vec F S1x2048x512 .f32) (x1 : Vec F S256x512 .f32) (x2 : Vec F S256x256 .f32) (x3 : Vec F S1x256 .f32) (x4 : Vec F S256x2048 .f32)

/-- The sorted projections less the last seven exchanges. -/
theorem almost_sorted :
    k0_pay64 x0 x1 x2 x3 x4
    = e8 (e4 (e2 (e1 (flip1 1#32 (m10 (flip2 2#32 1#32 (m9 (flip2 4#32 2#32 (m8 (flip2 8#32 4#32 (m7 (flip2 16#32 8#32 (m6 (flip2 32#32 16#32
    (m5 (flip2 64#32 32#32 (m4 (flip2 128#32 64#32 (m3 (flip2 256#32 128#32 (m2 (flip2 512#32 256#32 (m1 (flip1 512#32
      (proj (View.ld x1 r0_0) (View.ld x0 r0_1)))))))))))))))))))))))))) := by
  have h54 := group_a (k0_pay2 (View.ld x1 r0_0) (View.ld x0 r0_1))
  have h56 := group_b (k0_pay54 x0 x1 x2 x3 x4) (k0_pay55 x0 x1 x2 x3 x4) rfl
  have hc := group_c _ (k0_pay56 x0 x1 x2 x3 x4) h56
  have hd := group_d (k0_pay59 x0 x1 x2 x3 x4) (k0_pay60 x0 x1 x2 x3 x4)
  have e54 : k0_pay54 x0 x1 x2 x3 x4 = _ := h54
  rw [first_level] at e54
  have ec : k0_pay32 rows (k0_pay59 x0 x1 x2 x3 x4) (k0_pay60 x0 x1 x2 x3 x4) = _ := hc
  rw [ec, e54] at hd
  exact hd

/-- THE BODY'S RESULT: the weighted sum over the sorted projections, stored whole. -/
theorem out_eq :
    out0_5 x0 x1 x2 x3 x4
    = View.canon [⟨r0_5, combine (sorted (proj (View.ld x1 r0_0) (View.ld x0 r0_1))) (View.ld x3 r0_2) (View.ld x4 r0_3) (View.ld x2 r0_4)⟩] := by
  unfold out0_5
  rw [group_e, almost_sorted]
  rfl

end body

/-! ## The array -/

/-- The projections of batch `b` on direction `s`, the direction divided by its length. -/
def projS (X : FVec Ideal S16x2048x512 .f32) (th : FVec Ideal S512x512 .f32) (b : Fin 16) (s : Fin 512) : Fin (2 ^ 11) → EReal := fun i =>
  ∑ k : Fin 512, X (ix3 b (row i) k) * (th (ix2 s k) * Ideal.rsqrt (∑ k : Fin 512, th (ix2 s k) * th (ix2 s k)))

/-- The kernel's array at batch `b` and direction `s`. -/
def kAt (X : FVec Ideal S16x2048x512 .f32) (th : FVec Ideal S512x512 .f32) (ref : FVec Ideal S256x512 .f32) (w : FVec Ideal S1x256 .f32)
    (A : FVec Ideal S256x2048 .f32) (b : Fin 16) (s : Fin 512) : EReal :=
  (∑ j : Fin 256, w (ix2 (0 : Fin 1) j) * ref (ix2 j s))
    - ∑ k : Fin 2048, (∑ j : Fin 256, w (ix2 (0 : Fin 1) j) * A (ix2 j k)) * srt 11 (projS X th b s) k

/-- The kernel's array. -/
def kOut (X : FVec Ideal S16x2048x512 .f32) (th : FVec Ideal S512x512 .f32) (ref : FVec Ideal S256x512 .f32) (w : FVec Ideal S1x256 .f32)
    (A : FVec Ideal S256x2048 .f32) : FVec Ideal S16x1x512 .f32 := fun j => kAt X th ref w A (j 0) (j 2)

/-- A column of the projections of a block. -/
theorem col_proj (th : FVec Ideal S256x512 .f32) (x : FVec Ideal S1x2048x512 .f32) (c : Fin 256) :
    col (proj th x) c = fun i => ∑ k : Fin 512, x (ix3 (0 : Fin 1) (row i) k)
      * (th (ix2 c k) * Ideal.rsqrt (∑ k : Fin 512, th (ix2 c k) * th (ix2 c k))) := by
  funext i
  unfold col proj
  pointwise []

/-- The weighted sum at a column. -/
theorem combine_apply (v : FVec Ideal S2048x256 .f32) (w : FVec Ideal S1x256 .f32) (a : FVec Ideal S256x2048 .f32)
    (ref : FVec Ideal S256x256 .f32) (c : Fin 256) :
    combine v w a ref (ix3 (0 : Fin 1) (0 : Fin 1) c)
    = (∑ j : Fin 256, w (ix2 (0 : Fin 1) j) * ref (ix2 j c))
      - ∑ k : Fin 2048, (∑ j : Fin 256, w (ix2 (0 : Fin 1) j) * a (ix2 j k)) * col v c k := by
  unfold combine
  pointwise []
  rfl

variable (m : (ℓ : Loc nD τ sig) → Buf (Elt Ideal) ℓ)

/-- Where each window's block lies at each grid point. -/
theorem idx : ∀ t : Fin cfg0.N, win0_0.index t = ![(grid0.coords t 0).val, 0, 0] ∧ win0_1.index t = ![(grid0.coords t 1).val, 0]
    ∧ win0_2.index t = ![0, (grid0.coords t 1).val] ∧ win0_3.index t = ![0, 0] ∧ win0_4.index t = ![0, 0]
    ∧ win0_5.index t = ![(grid0.coords t 0).val, 0, (grid0.coords t 1).val] :=
  (by decide +kernel : ∀ t : Fin grid0.N, _)

/-- A block's weighted sum is the array's, at the places the blocks lie at. -/
theorem block_eq (X : FVec Ideal S16x2048x512 .f32) (th : FVec Ideal S512x512 .f32) (ref : FVec Ideal S256x512 .f32) (w : FVec Ideal S1x256 .f32)
    (A : FVec Ideal S256x2048 .f32) (x : FVec Ideal S1x2048x512 .f32) (h : FVec Ideal S256x512 .f32) (r : FVec Ideal S256x256 .f32)
    (u : FVec Ideal S1x256 .f32) (a : FVec Ideal S256x2048 .f32) (b : Fin 16) (s : Fin 512) (c : Fin 256)
    (hx : ∀ i k, x (ix3 (0 : Fin 1) i k) = X (ix3 b i k)) (hh : ∀ k, h (ix2 c k) = th (ix2 s k))
    (hr : ∀ j, r (ix2 j c) = ref (ix2 j s)) (hu : ∀ j, u (ix2 (0 : Fin 1) j) = w (ix2 (0 : Fin 1) j))
    (ha : ∀ j k, a (ix2 j k) = A (ix2 j k)) :
    combine (sorted (proj h x)) u a r (ix3 (0 : Fin 1) (0 : Fin 1) c) = kAt X th ref w A b s := by
  rw [combine_apply, col_sorted, col_proj]
  unfold kAt projS
  simp only [hx, hh, hr, hu, ha]

section blocks

variable (c : Dev nD) (t : Fin cfg0.N)

/-- The points of a block are a batch's. -/
theorem x_at (b : Fin 16) (hb : b.val = (grid0.coords t 0).val) (i : Fin 2048) (k : Fin 512) :
    (show FVec Ideal S1x2048x512 .f32 from iblk m c 0 t) (ix3 (0 : Fin 1) i k)
      = (show FVec Ideal S16x2048x512 .f32 from m ((c : Thread nD τ).loc main_arg0)) (ix3 b i k) := by
  blk_ext [iblk, V, idx t]

/-- The directions of a block are the array's at the block's place. -/
theorem th_at (s : Fin 512) (z : Fin 256) (hs : s.val = (grid0.coords t 1).val * 256 + z.val) (k : Fin 512) :
    (show FVec Ideal S256x512 .f32 from iblk m c 1 t) (ix2 z k)
      = (show FVec Ideal S512x512 .f32 from m ((c : Thread nD τ).loc main_arg1)) (ix2 s k) := by
  blk_ext [iblk, V, idx t]

/-- The reference points of a block are the array's at the block's place. -/
theorem ref_at (s : Fin 512) (z : Fin 256) (hs : s.val = (grid0.coords t 1).val * 256 + z.val) (j : Fin 256) :
    (show FVec Ideal S256x256 .f32 from iblk m c 2 t) (ix2 j z)
      = (show FVec Ideal S256x512 .f32 from m ((c : Thread nD τ).loc main_arg2)) (ix2 j s) := by
  blk_ext [iblk, V, idx t]

/-- The weights of a block are all. -/
theorem w_at (j : Fin 256) :
    (show FVec Ideal S1x256 .f32 from iblk m c 3 t) (ix2 (0 : Fin 1) j)
      = (show FVec Ideal S1x256 .f32 from m ((c : Thread nD τ).loc main_arg3)) (ix2 (0 : Fin 1) j) := by
  blk_ext [iblk, V, idx t]

/-- The matrix of a block is all of it. -/
theorem a_at (j : Fin 256) (k : Fin 2048) :
    (show FVec Ideal S256x2048 .f32 from iblk m c 4 t) (ix2 j k)
      = (show FVec Ideal S256x2048 .f32 from V m c main_v45) (ix2 j k) := by
  show V m c main_v45 _ = V m c main_v45 _
  generalize V m c main_v45 = A
  blk_ext [idx t]

end blocks

/-- THE KERNEL'S ARRAY after the run. -/
theorem final (c : Dev nD) : (dats m 0 c).arrAt 5 (cfgs 0).N
    = kOut (m ((c : Thread nD τ).loc main_arg0)) (m ((c : Thread nD τ).loc main_arg1)) (m ((c : Thread nD τ).loc main_arg2))
        (m ((c : Thread nD τ).loc main_arg3)) (V m c main_v45) := by
  refine (dats m 0 c).arrAt_eq_of_covers 5 _ (by decide +kernel) fun t _ y => ?_
  have h0 : ((((cfg0.win 5).blk t).view.emb y) 0).val = (grid0.coords t 0).val := by
    blk_simp [idx t]
  have h2 : ((((cfg0.win 5).blk t).view.emb y) 2).val = (grid0.coords t 1).val * 256 + (y 2).val := by blk_simp [idx t]
  have hy : y = ix3 (0 : Fin 1) (0 : Fin 1) (y 2 : Fin 256) := by
    funext a
    apply Fin.ext
    match a with
    | ⟨0, _⟩ => have := (y 0).isLt; change (y 0).1 < 1 at this; change (y 0).1 = 0; omega
    | ⟨1, _⟩ => have := (y 1).isLt; change (y 1).1 < 1 at this; change (y 1).1 = 0; omega
    | ⟨2, _⟩ => rfl
  generalize ((cfg0.win 5).blk t).view.emb y = e at h0 h2 ⊢
  blk_simp
  rw [after0_5, out_eq]
  frame_out
  exact (congrArg _ hy).trans (block_eq (m ((c : Thread nD τ).loc main_arg0)) (m ((c : Thread nD τ).loc main_arg1))
    (m ((c : Thread nD τ).loc main_arg2)) (m ((c : Thread nD τ).loc main_arg3)) (V m c main_v45)
    (iblk m c 0 t) (iblk m c 1 t) (iblk m c 2 t) (iblk m c 3 t) (iblk m c 4 t) (e 0) (e 2) (y 2)
    (x_at m c t _ h0) (th_at m c t _ _ h2) (ref_at m c t _ _ h2) (w_at m c t) (a_at m c t))

end Cert.Proof.Kernel

end
-- ==== Proof.Interp.lean ====
/-
  The interpolation matrix the kernel is given: row `j` holds `1 - t j` at the place of sorted entry `ind j` and `t j` at the place of the
  next one, in the order of reversed bits.
-/
module

public import proofs.«01_k».proof.Proof.Kernel

@[expose] public section

set_option maxRecDepth 16384

noncomputable section

namespace Cert.Proof.Interp

open Cert.KernelIdeal Cert.KernelIdeal.Gen Cert.Proof.Stages Idealize.ShloMosaic Idealize.ShloMosaic.TcCoe Idealize.SL.Sem

/-- The sorted entry below the new point `j`. -/
def ind (j : Fin 256) : ℕ := ((j.val + 1) * 2049 - 1) / 257 - 1

theorem ind_lt (j : Fin 256) : ind j < 2047 := by unfold ind; omega

variable (m : (ℓ : Loc nD τ sig) → Buf (Elt Ideal) ℓ)

/-- The column of the numbers of the sorted entries below the new points. -/
def indCol : IVec S256x1 32 :=
  minsi (maxsi (subi (Host.divsi (subi (muli (addi (iotaInDim S256x1 32 0) (broadcastInDim S256x1 ![] bcast_S_S256x1 (constantI S_ 32 1#32)))
      (broadcastInDim S256x1 ![] bcast_S_S256x1 (constantI S_ 32 2049#32))) (broadcastInDim S256x1 ![] bcast_S_S256x1 (constantI S_ 32 1#32)))
      (broadcastInDim S256x1 ![] bcast_S_S256x1 (constantI S_ 32 257#32))) (broadcastInDim S256x1 ![] bcast_S_S256x1 (constantI S_ 32 1#32)))
    (broadcastInDim S256x1 ![] bcast_S_S256x1 (constantI S_ 32 0#32))) (broadcastInDim S256x1 ![] bcast_S_S256x1 (constantI S_ 32 2046#32))

/-- The column of the fractions of a step that the new points lie past those entries. -/
def fracCol : FVec Ideal S256x1 .f32 :=
  Host.divf (subf (Host.divf (sitofp .f32 (addi (iotaInDim S256x1 32 0) (broadcastInDim S256x1 ![] bcast_S_S256x1 (constantI S_ 32 1#32))))
      (broadcastInDim S256x1 ![] bcast_S_S256x1 (constant S_ .f32 0x43808000#32)))
    (Host.divf (sitofp .f32 (addi indCol (broadcastInDim S256x1 ![] bcast_S_S256x1 (constantI S_ 32 1#32))))
      (broadcastInDim S256x1 ![] bcast_S_S256x1 (constant S_ .f32 0x45001000#32))))
    (addf (broadcastInDim S256x1 ![] bcast_S_S256x1 (constant S_ .f32 0x34000000#32))
      (Host.divf (broadcastInDim S256x1 ![] bcast_S_S256x1 (constant S_ .f32 0x3F800000#32))
        (broadcastInDim S256x1 ![] bcast_S_S256x1 (constant S_ .f32 0x45001000#32))))

/-- The positions, in every row. -/
def posRow : IVec S256x2048 32 :=
  broadcastInDim S256x2048 ![0, 1] bcast_S1x2048_S256x2048_0_1 (broadcastInDim S1x2048 ![1] bcast_S2048_S1x2048_1 fun i => lit0 (S2048.rowMajor i))

/-- The interpolation matrix. -/
def mat : FVec Ideal S256x2048 .f32 :=
  addf (select (cmpi .eq posRow (broadcastInDim S256x2048 ![0, 1] bcast_S256x1_S256x2048_0_1 indCol))
      (broadcastInDim S256x2048 ![0, 1] bcast_S256x1_S256x2048_0_1
        (subf (broadcastInDim S256x1 ![] bcast_S_S256x1 (constant S_ .f32 0x3F800000#32)) fracCol))
      (broadcastInDim S256x2048 ![] bcast_S_S256x2048 (constant S_ .f32 0x00000000#32)))
    (select (cmpi .eq posRow (broadcastInDim S256x2048 ![0, 1] bcast_S256x1_S256x2048_0_1
        (addi indCol (broadcastInDim S256x1 ![] bcast_S_S256x1 (constantI S_ 32 1#32)))))
      (broadcastInDim S256x2048 ![0, 1] bcast_S256x1_S256x2048_0_1 fracCol)
      (broadcastInDim S256x2048 ![] bcast_S_S256x2048 (constant S_ .f32 0x00000000#32)))

/-- The kernel's fifth operand is the interpolation matrix. -/
theorem operand_eq (c : Dev nD) : V m c main_v45 = mat := by
  unfold V
  simp only [hostOps0, hostOps0_1, hostOps0_2, hostOps0_3, hostOps0_4, List.flatten_cons, List.flatten_nil, List.append_nil, List.cons_append,
    List.nil_append]
  after_results_simp
  simp only [StableHlo.TRef.toBuf, StableHlo.TRef.ofBuf, cast_eq]
  rfl

theorem indCol_apply (j : Fin 256) : indCol (ix2 j (0 : Fin 1)) = BitVec.ofNat 32 (ind j) := by
  pointwise [indCol]
  revert j
  decide +kernel

/-- The pattern of 257. -/
theorem bits_257 : Ideal.ofBits .f32 0x43808000#32 = ((257 : ℝ) : EReal) := by
  simp [Ideal.ofBits, Ideal.ieee, -EReal.coe_mul]; norm_num

/-- The pattern of 2049. -/
theorem bits_2049 : Ideal.ofBits .f32 0x45001000#32 = ((2049 : ℝ) : EReal) := by
  simp [Ideal.ofBits, Ideal.ieee, -EReal.coe_mul]; norm_num

/-- The pattern of two to the minus twenty-three. -/
theorem bits_eps : Ideal.ofBits .f32 0x34000000#32 = ((1 / 8388608 : ℝ) : EReal) := by
  simp [Ideal.ofBits, Ideal.ieee, -EReal.coe_mul]; norm_num

/-- A small word as a number. -/
theorem toInt_small (n : ℕ) (h : n < 2 ^ 20) : (BitVec.ofNat 32 n).toInt = n := by
  rw [BitVec.toInt_eq_toNat_of_lt] <;> rw [BitVec.toNat_ofNat, Nat.mod_eq_of_lt (by omega)]
  omega

/-- A small word read as a number. -/
theorem number_small (n : ℕ) (h : n < 2 ^ 20) : FloatOps.sitofp (F := Ideal) .f32 (BitVec.ofNat 32 n) = ((n : ℝ) : EReal) := by
  show (((BitVec.ofNat 32 n).toInt : ℝ) : EReal) = _
  rw [toInt_small n h]; norm_cast

/-- A step of the old points and the guard against dividing by nothing. -/
def step : ℝ := 1 / 8388608 + 1 / 2049

/-- The distance from the old point below to the new point. -/
def gap (j : Fin 256) : ℝ := ((j.val + 1 : ℕ) : ℝ) * (1 / 257) - ((ind j + 1 : ℕ) : ℝ) * (1 / 2049)

/-- The fraction of a step that the new point lies past the old point below. -/
def frac (j : Fin 256) : ℝ := gap j * (1 / step)

theorem step_ne : step ≠ 0 := by unfold step; norm_num

/-- The fractions, as the kernel computes them. -/
theorem fracCol_apply (j : Fin 256) : fracCol (ix2 j (0 : Fin 1)) = (frac j : EReal) := by
  have h := ind_lt j
  pointwise [fracCol]
  rw [indCol_apply]
  have e1 : IntOp.addi (BitVec.ofNat 32 j.val) 1#32 = BitVec.ofNat 32 (j.val + 1) := (BitVec.ofNat_add ..).symm
  have e2 : IntOp.addi (BitVec.ofNat 32 (ind j)) 1#32 = BitVec.ofNat 32 (ind j + 1) := (BitVec.ofNat_add ..).symm
  rw [e1, e2, number_small _ (by omega), number_small _ (by omega), bits_257, bits_2049, bits_eps, Ideal.div_coe (by norm_num),
    Ideal.div_coe (by norm_num), Ideal.div_coe (by norm_num), one_mul, ← EReal.coe_add, ← EReal.coe_mul, ← EReal.coe_mul, ← EReal.coe_sub]
  rw [Ideal.div_coe (show (1 / 8388608 + 1 / 2049 : ℝ) ≠ 0 by norm_num), ← EReal.coe_mul]
  rfl

/-- The table of positions is the order of reversed bits. -/
theorem lit0_rv : ∀ k : Fin 2048, lit0 k = BitVec.ofNat 32 (rv k).val := by decide +kernel

/-- The positions at a column. -/
theorem posRow_apply (j : Fin 256) (k : Fin 2048) : posRow (ix2 j k) = BitVec.ofNat 32 (rv k).val := by
  pointwise [posRow]
  refine Eq.trans ?_ (lit0_rv k)
  congr 1
  exact Fin.ext (Shape.rowMajor_val_one _)

/-- Small words are equal when their numbers are. -/
theorem cmp_small (a b : ℕ) (ha : a < 2 ^ 20) (hb : b < 2 ^ 20) :
    (IntOp.cmpi .eq (BitVec.ofNat 32 a) (BitVec.ofNat 32 b) = 1) ↔ a = b := by
  have : BitVec.ofNat 32 a = BitVec.ofNat 32 b ↔ a = b := by
    constructor
    · intro h
      have := congrArg BitVec.toNat h
      rw [BitVec.toNat_ofNat, BitVec.toNat_ofNat, Nat.mod_eq_of_lt (by omega), Nat.mod_eq_of_lt (by omega)] at this
      exact this
    · rintro rfl; rfl
  rw [← this]
  show BitVec.ofBool (BitVec.ofNat 32 a == BitVec.ofNat 32 b) = 1 ↔ _
  by_cases h : BitVec.ofNat 32 a = BitVec.ofNat 32 b
  · simp [h]
  · rw [beq_eq_false_iff_ne.mpr h]
    simp [h]

/-- THE MATRIX: the two weights of row `j` at the places of its two sorted entries, nothing elsewhere. -/
theorem mat_apply (j : Fin 256) (k : Fin 2048) :
    mat (ix2 j k) = (((if (rv k).val = ind j then 1 - frac j else 0) + (if (rv k).val = ind j + 1 then frac j else 0) : ℝ) : EReal) := by
  have h := ind_lt j
  have hk := (rv k).isLt
  pointwise [mat]
  rw [indCol_apply, posRow_apply, fracCol_apply]
  have e2 : IntOp.addi (BitVec.ofNat 32 (ind j)) 1#32 = BitVec.ofNat 32 (ind j + 1) := (BitVec.ofNat_add ..).symm
  rw [e2]
  unfold Scalar.select
  rw [if_congr (cmp_small _ _ (by omega) (by omega)) rfl rfl, if_congr (cmp_small _ _ (by omega) (by omega)) rfl rfl, EReal.coe_add]
  congr 1 <;> split <;> simp

end Cert.Proof.Interp

end
-- ==== Proof.RefTerm.lean ====
/-
  The reference's array as the composition of its named steps: the grids of the quantiles, the search, the sort, the interpolation, the
  order of the reference points, the weighted difference.
-/
module

public import proofs.«01_k».proof.Proof.Gen.ReferenceIdeal.Run
public import Idealize.ShloMosaic.Lib.Claim
public import Idealize.ShloMosaic.PureOps.Ideal

@[expose] public section

set_option maxRecDepth 16384

noncomputable section

namespace Cert.Proof.Ref

open Cert.ReferenceIdeal Cert.ReferenceIdeal.Gen Idealize.ShloMosaic Idealize.ShloMosaic.TcCoe Idealize.SL.Sem

/-- The grid of the sorted entries: `1/2049, …, 2048/2049`. -/
def xs : FVec Ideal S2048 .f32 :=
  extractStridedSlice S2048 ![1] (concatenate S2050 0 [⟨S2049, addf (mulf (broadcastInDim S2049 ![0] bcast_S1_S2049_0 (shapeCast _ (id (constant S_ .f32 0x00000000#32)) shapeCasts_S_S1))
      (subf (broadcastInDim S2049 ![] bcast_S_S2049 (constant S_ .f32 0x3F800000#32)) (Host.divf (sitofp .f32 (iotaInDim S2049 32 0)) (broadcastInDim S2049 ![] bcast_S_S2049 (constant S_ .f32 0x45001000#32)))))
      (mulf (broadcastInDim S2049 ![0] bcast_S1_S2049_0 (shapeCast _ (id (constant S_ .f32 0x3F800000#32)) shapeCasts_S_S1))
      (Host.divf (sitofp .f32 (iotaInDim S2049 32 0)) (broadcastInDim S2049 ![] bcast_S_S2049 (constant S_ .f32 0x45001000#32))))⟩,
    ⟨S1, broadcastInDim S1 ![] bcast_S_S1 (id (constant S_ .f32 0x3F800000#32))⟩] concatenates_S2049_S1_S2050_d0) slices_S2050_S2048_1

/-- The grid of the new points: `1/257, …, 256/257`. -/
def xn : FVec Ideal S256 .f32 :=
  extractStridedSlice S256 ![1] (concatenate S258 0 [⟨S257, addf (mulf (broadcastInDim S257 ![0] bcast_S1_S257_0 (shapeCast _ (id (constant S_ .f32 0x00000000#32)) shapeCasts_S_S1))
      (subf (broadcastInDim S257 ![] bcast_S_S257 (constant S_ .f32 0x3F800000#32)) (Host.divf (sitofp .f32 (iotaInDim S257 32 0)) (broadcastInDim S257 ![] bcast_S_S257 (constant S_ .f32 0x43808000#32)))))
      (mulf (broadcastInDim S257 ![0] bcast_S1_S257_0 (shapeCast _ (id (constant S_ .f32 0x3F800000#32)) shapeCasts_S_S1))
      (Host.divf (sitofp .f32 (iotaInDim S257 32 0)) (broadcastInDim S257 ![] bcast_S_S257 (constant S_ .f32 0x43808000#32))))⟩,
    ⟨S1, broadcastInDim S1 ![] bcast_S_S1 (id (constant S_ .f32 0x3F800000#32))⟩] concatenates_S257_S1_S258_d0) slices_S258_S256_1

/-- Where a sorted grid point lies before a new point. -/
def before : IVec S256x2048 1 :=
  cmpf .olt (broadcastInDim S256x2048 ![0, 1] bcast_S1x2048_S256x2048_0_1 (broadcastInDim S1x2048 ![1] bcast_S2048_S1x2048_1 xs) : FVec Ideal S256x2048 .f32)
    (broadcastInDim S256x2048 ![0, 1] bcast_S256x1_S256x2048_0_1 (broadcastInDim S256x1 ![0] bcast_S256_S256x1_0 xn))

/-- How many sorted grid points lie before each new point. -/
def count : IVec S256 32 :=
  Host.reduce IntOp.addi (extui 32 before natLt_1_32) (constantI S_ 32 0#32) reducesTo_S256x2048_S256_d1 h_S_

/-- The number of the last of them, kept within the grid. -/
def place : IVec S256 32 :=
  minsi (broadcastInDim S256 ![] bcast_S_S256 (id (constantI S_ 32 2046#32))) (maxsi (broadcastInDim S256 ![] bcast_S_S256 (id (constantI S_ 32 0#32)))
    (subi count (broadcastInDim S256 ![] bcast_S_S256 (constantI S_ 32 1#32))))

/-- Those numbers as the indices of a gather out of `n` entries: a negative one would count from the end. -/
def index (n : BitVec 32) : IVec S256x1 32 :=
  broadcastInDim S256x1 ![0] bcast_S256_S256x1_0 (select (cmpi .slt place (broadcastInDim S256 ![] bcast_S_S256 (constantI S_ 32 0#32)))
    (addi place (broadcastInDim S256 ![] bcast_S_S256 (constantI S_ 32 n))) place)

/-- The differences of neighbouring grid points, with the small number added. -/
def steps : FVec Ideal S2047 .f32 :=
  addf (broadcastInDim S2047 ![] bcast_S_S2047 (constant S_ .f32 0x34000000#32))
    (subf (extractStridedSlice S2047 ![1] xs slices_S2048_S2047_1) (extractStridedSlice S2047 ![0] xs slices_S2048_S2047_0))

/-- How far each new point lies past the grid point before it. -/
def past : FVec Ideal S256 .f32 := subf xn (Host.gather gather_S2048_S256x1_S256_n_0_n_n_0_1_1 xs (index 2048#32))

section
variable (X : FVec Ideal S16x2048x512 .f32) (th : FVec Ideal S512x512 .f32) (ref : FVec Ideal S256x512 .f32) (w : FVec Ideal S1x256 .f32)

/-- The directions, each divided by its length. -/
def units : FVec Ideal S512x512 .f32 :=
  Host.divf th (broadcastInDim S512x512 ![0, 1] bcast_S512x1_S512x512_0_1 (Host.sqrt (broadcastInDim S512x1 ![0] bcast_S512_S512x1_0
    (Host.reduceAdd (mulf th th) (constant S_ .f32 0x00000000#32) reducesTo_S512x512_S512_d1 h_S_))))

/-- The projections of the points on the directions. -/
def projections : FVec Ideal S16x2048x512 .f32 :=
  Host.dotGeneral dot_S16x2048x512_S512x512_S16x2048x512_2_1_01_0_n_n none X (units th)

/-- A batch of columns, sorted. -/
def sorts (P : FVec Ideal S16x2048x512 .f32) : FVec Ideal S16x2048x512 .f32 := Host.sort S16x2048x512 1 comparator_f32_d1 P

/-- The slopes between neighbouring sorted entries. -/
def slopes (Y : FVec Ideal S16x2048x512 .f32) : FVec Ideal S16x2047x512 .f32 :=
  Host.divf (subf (extractStridedSlice S16x2047x512 ![0, 1, 0] Y slices_S16x2048x512_S16x2047x512_0_1_0)
      (extractStridedSlice S16x2047x512 ![0, 0, 0] Y slices_S16x2048x512_S16x2047x512_0_0_0))
    (broadcastInDim S16x2047x512 ![0, 1, 2] bcast_S1x2047x1_S16x2047x512_0_1_2 (broadcastInDim S1x2047x1 ![1] bcast_S2047_S1x2047x1_1 steps))

/-- The sorted entries interpolated at the new points. -/
def interpolated (Y : FVec Ideal S16x2048x512 .f32) : FVec Ideal S16x256x512 .f32 :=
  addf (Host.gather gather_S16x2048x512_S256x1_S16x256x512_02_1_n_n_1_1_161512 Y (index 2048#32))
    (mulf (Host.gather gather_S16x2047x512_S256x1_S16x256x512_02_1_n_n_1_1_161512 (slopes Y) (index 2047#32))
      (broadcastInDim S16x256x512 ![0, 1, 2] bcast_S1x256x1_S16x256x512_0_1_2 (broadcastInDim S1x256x1 ![1] bcast_S256_S1x256x1_1 past)))

/-- The reference points, in every batch. -/
def points : FVec Ideal S16x256x512 .f32 :=
  broadcastInDim S16x256x512 ![0, 1, 2] bcast_S1x256x512_S16x256x512_0_1_2 (broadcastInDim S1x256x512 ![1, 2] bcast_S256x512_S1x256x512_1_2 ref)

/-- The order of the reference points of every column. -/
def order : IVec S16x256x512 32 :=
  (Host.sort2 S16x256x512 1 comparator_f32_i32_d1 (points ref) (iotaInDim S16x256x512 32 1)).2

/-- That order as the indices of a gather: a negative one would count from the end. -/
def orderIndex (o : IVec S16x256x512 32) : IVec S16x256x512x1 32 :=
  shapeCast _ (select (cmpi .slt o (broadcastInDim S16x256x512 ![] bcast_S_S16x256x512 (constantI S_ 32 0#32)))
    (addi o (broadcastInDim S16x256x512 ![] bcast_S_S16x256x512 (constantI S_ 32 256#32))) o) shapeCasts_S16x256x512_S16x256x512x1

/-- Where those indices lie in the array. -/
def inside (J : IVec S16x256x512x1 32) : IVec S16x256x512 1 :=
  Host.reduce IntOp.andi (andi (cmpi .sge J (broadcastInDim S16x256x512x1 ![] bcast_S_S16x256x512x1 (constantI S_ 32 0#32)))
    (cmpi .sle J (broadcastInDim S16x256x512x1 ![0, 1, 2, 3] bcast_S1x1x1x1_S16x256x512x1_0_1_2_3 (broadcastInDim S1x1x1x1 ![3] bcast_S1_S1x1x1x1_3 (constantI S1 32 255#32)))))
    (constantI S_ 1 1#1) reducesTo_S16x256x512x1_S16x256x512_d3 h_S_

/-- The entries at those indices; what lies outside the array has no value. -/
def taken (T : FVec Ideal S16x256x512 .f32) (J : IVec S16x256x512x1 32) : FVec Ideal S16x256x512 .f32 :=
  select (inside J) (Host.gather gather_S16x256x512_S16x256x512x1_S16x256x512_n_1_02_02_1_3_111 T J)
    (broadcastInDim S16x256x512 ![] bcast_S_S16x256x512 (constant S_ .f32 0x7FC00000#32))

/-- The weighted sum of the reference points less the taken entries. -/
def weighted (T : FVec Ideal S16x256x512 .f32) : FVec Ideal S16x1x512 .f32 :=
  broadcastInDim S16x1x512 ![0, 2] bcast_S16x512_S16x1x512_0_2 (Host.reduceAdd
    (Host.dotGeneral dot_S16x512x256_S256x1_S16x512x1_2_0_01_1_n_n none
      (transpose S16x512x256 [0, 2, 1] (subf (points ref) T) transposes_S16x256x512_S16x512x256_0_2_1)
      (transpose S256x1 [1, 0] w transposes_S1x256_S256x1_1_0))
    (constant S_ .f32 0x00000000#32) reducesTo_S16x512x1_S16x512_d2 h_S_)

end

variable (m : (ℓ : Loc nD τ sig) → Buf (Elt Ideal) ℓ)

/-- THE REFERENCE'S ARRAY as those steps. -/
theorem result (c : Dev nD) :
    Value.res_main_v65 m c
    = weighted (m ((c.tc : Thread nD τ).loc main_arg2)) (m ((c.tc : Thread nD τ).loc main_arg3))
        (taken (interpolated (sorts (projections (m ((c.tc : Thread nD τ).loc main_arg0)) (m ((c.tc : Thread nD τ).loc main_arg1)))))
          (orderIndex (order (m ((c.tc : Thread nD τ).loc main_arg2))))) := rfl

end Cert.Proof.Ref

end
-- ==== Proof.Ordinary.lean ====
/-
  What the precondition says of the arguments: all numbers but the reference points are real, no direction is zero, and the reference
  points of every column ascend.
-/
module

public import proofs.«01_k».proof.Proof.Gen.Pre_ordinary
public import Idealize.ShloMosaic.Lib.Pointwise
public import Idealize.ShloMosaic.Lib.ReduceAll
public import Idealize.ShloMosaic.PureOps.Ideal

@[expose] public section

set_option maxRecDepth 16384

noncomputable section

namespace Cert.Proof.Ordinary

open Cert.Pre_ordinary Cert.Pre_ordinary.Gen Idealize.ShloMosaic

/-- The arguments are ordinary. -/
structure Good (X : FVec Ideal S16x2048x512 .f32) (th : FVec Ideal S512x512 .f32) (ref : FVec Ideal S256x512 .f32) (w : FVec Ideal S1x256 .f32) : Prop where
  /-- Every point is real. -/
  point : ∀ (b : Fin 16) (i : Fin 2048) (k : Fin 512), ∃ r : ℝ, X (ix3 b i k) = (r : EReal)
  /-- Every direction is real. -/
  direction : ∀ s k : Fin 512, ∃ r : ℝ, th (ix2 s k) = (r : EReal)
  /-- Every weight is real. -/
  weight : ∀ j : Fin 256, ∃ r : ℝ, w (ix2 (0 : Fin 1) j) = (r : EReal)
  /-- No direction is zero. -/
  nonzero : ∀ s : Fin 512, ∃ k : Fin 512, th (ix2 s k) ≠ 0
  /-- The reference points of a column ascend. -/
  ascend : ∀ (j j' : Fin 256) (s : Fin 512), j < j' → ref (ix2 j s) ≤ ref (ix2 j' s)

/-- Two bits are both set when their conjunction is. -/
theorem both {s : Shape} (a b : IVec s 1) (i : s.Idx) (h : andi a b i = 1#1) : a i = 1#1 ∧ b i = 1#1 := by
  have h : IntOp.andi (a i) (b i) = 1#1 := h
  generalize a i = p at h
  generalize b i = q at h
  revert p q
  decide

/-- A number whose magnitude is below something is real. -/
theorem real_of_abs (x y : EReal) (h : FloatOps.cmpf (F := Ideal) (φ := .f32) .olt (FloatOps.hostAbsf (F := Ideal) (φ := .f32) x) y = 1#1) : ∃ r : ℝ, x = (r : EReal) := by
  have h : BitVec.ofBool (decide (max x (-x) < y)) = 1#1 := h
  have h : max x (-x) < y := by
    by_contra hn
    rw [decide_eq_false hn] at h
    exact absurd h (by decide)
  have h1 := h.trans_le le_top
  induction x with
  | coe r => exact ⟨r, rfl⟩
  | top => exact absurd ((le_max_left _ _).trans_lt h1) (lt_irrefl _)
  | bot => exact absurd ((le_max_right _ _).trans_lt h1) (by simp)

/-- A disjunction over a list that holds had a bit set. -/
theorem foldl_ori {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori f l _ h with h | ⟨n, hn, e⟩
    · have hd : ∀ p q : BitVec 1, IntOp.ori p q = 1#1 → p = 1#1 ∨ q = 1#1 := by decide
      exact (hd _ _ h).imp id fun h => ⟨a, List.mem_cons_self .., h⟩
    · exact Or.inr ⟨n, List.mem_cons_of_mem _ hn, e⟩

/-- A reduction by disjunction that holds at `j` had a bit set among those reduced into `j`, or in what it started from. -/
theorem reduce_ori_some {s t u : Shape} {axes : List (Fin s.rank)} (x : s.Idx → BitVec 1) (init : u.Idx → BitVec 1) (h : s.ReducesTo axes t)
    (hu : 0 < u.numel) (j : t.Idx) (e : Host.reduce IntOp.ori x init h hu j = 1#1) :
    init (Shape.Idx.first hu) = 1#1 ∨ ∃ i : s.Idx, h.drop i = j ∧ x i = 1#1 := by
  rw [Host.reduce_eq_foldl] at e
  refine (foldl_ori x _ _ e).imp id fun ⟨i, hi, e⟩ => ⟨i, ?_, e⟩
  exact of_decide_eq_true (List.mem_filter.mp hi).2

/-- A row of which some bit is set. -/
theorem row_some (x : IVec S512x512 1) (s : Fin 512)
    (h : Host.reduce IntOp.ori x (constantI S_ 1 0#1) reducesTo_S512x512_S512_d1 h_S_ (ix1 s) = 1#1) : ∃ k : Fin 512, x (ix2 s k) = 1#1 := by
  rcases reduce_ori_some x _ _ _ _ h with h | ⟨i, hd, e⟩
  · exact absurd (show (0#1 : BitVec 1) = 1#1 from h) (by decide)
  · have h0 : (i 0).val = s.val := (reducesTo_S512x512_S512_d1.drop_apply_val_of_eq i 0 0).symm.trans (congrArg (fun j => (j 0).val) hd)
    have hi : ix2 s (i 1) = i := by
      funext a
      match a with
      | ⟨0, _⟩ => exact Fin.ext h0.symm
      | ⟨1, _⟩ => rfl
    exact ⟨i 1, (congrArg x hi).trans e⟩

/-- Neighbours in order make the column ascend. -/
theorem ascending (f : Fin 256 → EReal) (h : ∀ j : Fin 255, f ⟨j.val, by omega⟩ ≤ f ⟨j.val + 1, by omega⟩) (j j' : Fin 256) (hj : j < j') : f j ≤ f j' :=
  (Fin.monotone_iff_le_succ (n := 255) (f := f)).mpr h hj.le

instance : Subsingleton S_.Idx := ⟨fun a b => funext fun i => i.elim0⟩

/-- THE PRECONDITION says that the arguments are ordinary. -/
theorem good (X : FVec Ideal S16x2048x512 .f32) (th : FVec Ideal S512x512 .f32) (ref : FVec Ideal S256x512 .f32) (w : FVec Ideal S1x256 .f32)
    (h : Cert.Pre_ordinary.fn (F := Ideal) X th ref w = fun _ => 1#1) : Good X th ref w := by
  have h := congrFun h ix0
  dsimp only [fn, fn_part1] at h
  obtain ⟨h, h5⟩ := both _ _ _ h
  obtain ⟨h, h4⟩ := both _ _ _ h
  obtain ⟨h, h3⟩ := both _ _ _ h
  obtain ⟨h1, h2⟩ := both _ _ _ h
  have a1 := Host.reduce_andi_all _ _ _ _ _ h1
  have a2 := Host.reduce_andi_all _ _ _ _ _ h2
  have a3 := Host.reduce_andi_all _ _ _ _ _ h3
  have a4 := Host.reduce_andi_all _ _ _ _ _ h4
  have a5 := Host.reduce_andi_all _ _ _ _ _ h5
  refine ⟨fun b i k => real_of_abs _ _ (a1 (ix3 b i k)), fun s k => real_of_abs _ _ (a2 (ix2 s k)), fun j => real_of_abs _ _ (a3 (ix2 (0 : Fin 1) j)),
    fun s => ?_, fun j j' s => ascending (fun j => ref (ix2 j s)) (fun j => ?_) j j'⟩
  · obtain ⟨k, hk⟩ := row_some _ s (a4 (ix1 s))
    refine ⟨k, fun h0 => ?_⟩
    have hk : BitVec.ofBool (decide (th (ix2 s k) ≠ Ideal.ofBits .f32 0x00000000#32)) = 1#1 := hk
    rw [h0, Ideal.ofBits_zero_f32] at hk
    exact absurd hk (by simp)
  · have e : cmpf .ole (extractStridedSlice S255x512 ![0, 0] ref slices_S256x512_S255x512_0_0) (extractStridedSlice S255x512 ![1, 0] ref slices_S256x512_S255x512_1_0)
        (ix2 j s) = 1#1 := a5 (ix2 j s)
    revert e
    pointwise []
    intro e
    have e' : ref (ix2 ⟨j.val, by omega⟩ s) ≤ ref (ix2 ⟨1 + j.val, by omega⟩ s) := by
      by_contra hn
      rw [decide_eq_false hn] at e
      exact absurd e (by decide)
    exact e'.trans_eq (congrArg (fun k => ref (ix2 k s)) (Fin.ext (Nat.add_comm 1 j.val)))

end Cert.Proof.Ordinary

end
-- ==== Proof.RefRead.lean ====
/-
  The reference's steps, entry by entry: the two grids, the places of the new points, and the interpolated entries.
-/
module

public import proofs.«01_k».proof.Proof.RefTerm
public import proofs.«01_k».proof.Proof.Interp
public import Idealize.ShloMosaic.Lib.Pointwise
public import Idealize.ShloMosaic.Lib.ReduceAll
public import Idealize.ShloMosaic.Lib.SortFacts
public import Idealize.ShloMosaic.Lib.Routing.Ops

@[expose] public section

set_option maxRecDepth 16384

noncomputable section

namespace Cert.Proof.Ref

open Cert.ReferenceIdeal Cert.ReferenceIdeal.Gen Cert.Proof.Interp Idealize.ShloMosaic Idealize.ShloMosaic.TcCoe Idealize.SL.Sem

/-! ## The grids -/

/-- A grid point: the even spread from 0 to 1 in `n` steps, as printed. -/
theorem spread_apply (k : ℕ) (hk : k < 2 ^ 20) (b : BitVec 32) (n : ℝ) (hn : n ≠ 0) (hb : Ideal.ofBits .f32 b = (n : EReal)) :
    Ideal.ofBits .f32 0x00000000#32 * (1 - Ideal.div (FloatOps.sitofp (F := Ideal) .f32 (BitVec.ofNat 32 k)) (Ideal.ofBits .f32 b))
      + Ideal.ofBits .f32 0x3F800000#32 * Ideal.div (FloatOps.sitofp (F := Ideal) .f32 (BitVec.ofNat 32 k)) (Ideal.ofBits .f32 b)
    = (((k : ℝ) * (1 / n) : ℝ) : EReal) := by
  rw [hb, number_small k hk, Ideal.div_coe hn, Ideal.ofBits_zero_f32, Ideal.ofBits_one_f32, ← EReal.coe_mul, zero_mul, one_mul, zero_add]

/-- The grid of the sorted entries. -/
theorem xs_apply (i : Fin 2048) : xs (ix1 i) = ((((i.val + 1 : ℕ) : ℝ) * (1 / 2049) : ℝ) : EReal) := by
  have h := i.isLt
  pointwise [xs]
  rw [dif_pos (by omega), Nat.add_comm 1 i.val]
  exact spread_apply _ (by omega) _ _ (by norm_num) bits_2049

/-- The grid of the new points. -/
theorem xn_apply (j : Fin 256) : xn (ix1 j) = ((((j.val + 1 : ℕ) : ℝ) * (1 / 257) : ℝ) : EReal) := by
  have h := j.isLt
  pointwise [xn]
  rw [dif_pos (by omega), Nat.add_comm 1 j.val]
  exact spread_apply _ (by omega) _ _ (by norm_num) bits_257

/-! ## The places of the new points -/

/-- A grid point lies before a new point when its number over 2049 is less than the new point's over 257. -/
theorem before_apply (j : Fin 256) (i : Fin 2048) : before (ix2 j i) = 1#1 ↔ (i.val + 1) * 257 < (j.val + 1) * 2049 := by
  pointwise [before]
  rw [xs_apply, xn_apply]
  have e : ((((i.val + 1 : ℕ) : ℝ) * (1 / 2049) < ((j.val + 1 : ℕ) : ℝ) * (1 / 257)) ↔ (i.val + 1) * 257 < (j.val + 1) * 2049) := by
    rw [mul_one_div, mul_one_div, div_lt_div_iff₀ (by norm_num) (by norm_num)]
    exact_mod_cast Iff.rfl
  rw [← e, ← EReal.coe_lt_coe_iff]
  by_cases h : ((((i.val + 1 : ℕ) : ℝ) * (1 / 2049) : ℝ) : EReal) < ((((j.val + 1 : ℕ) : ℝ) * (1 / 257) : ℝ) : EReal)
  · simp only [h, decide_true, iff_true]; rfl
  · simp only [h, decide_false, iff_false]; decide

/-- How many grid points lie before a new point. -/
theorem count_apply (j : Fin 256) : count (ix1 j) = BitVec.ofNat 32 (((j.val + 1) * 2049 - 1) / 257) := by
  refine (Routing.reduce_count (by decide) before natLt_1_32 _ _ j (fun q => q < ((j.val + 1) * 2049 - 1) / 257) fun q => ?_).trans ?_
  · exact (before_apply j q).trans (by omega)
  · congr 1
    rw [Nat.count_eq_card_filter_range]
    have h := j.isLt
    have : (Finset.range 2048).filter (fun q => q < ((j.val + 1) * 2049 - 1) / 257) = Finset.range (((j.val + 1) * 2049 - 1) / 257) := by
      ext q
      simp only [Finset.mem_filter, Finset.mem_range]
      omega
    rw [this, Finset.card_range]

theorem clip_small : ∀ j : Fin 256,
    IntOp.minsi 2046#32 (IntOp.maxsi 0#32 (IntOp.subi (BitVec.ofNat 32 (((j.val + 1) * 2049 - 1) / 257)) 1#32)) = BitVec.ofNat 32 (ind j) := by
  decide +kernel

/-- The place of a new point. -/
theorem place_apply (j : Fin 256) : place (ix1 j) = BitVec.ofNat 32 (ind j) := by
  pointwise [place]
  rw [count_apply]
  exact clip_small j

theorem small_slt (n : ℕ) (h : n < 2 ^ 20) : IntOp.cmpi .slt (BitVec.ofNat 32 n) 0#32 = 0#1 := by
  have : ¬ (BitVec.ofNat 32 n).toInt < (0#32).toInt := by
    rw [toInt_small n h]
    simp
  show BitVec.ofBool ((BitVec.ofNat 32 n).slt 0#32) = 0#1
  rw [BitVec.slt_eq_decide, decide_eq_false this]
  rfl

/-- The index of a gather is the place itself. -/
theorem index_apply (n : BitVec 32) (j : Fin 256) : index n (ix2 j (0 : Fin 1)) = BitVec.ofNat 32 (ind j) := by
  have h := ind_lt j
  pointwise [index]
  rw [place_apply, small_slt _ (by omega)]
  rfl

/-! ## The gathers -/

/-- A gather of rows out of 2048. -/
theorem take_rows (T : FVec Ideal S16x2048x512 .f32) (I : IVec S256x1 32) (b : Fin 16) (j : Fin 256) (s : Fin 512) (n : ℕ) (hn : n < 2048)
    (hI : I (ix2 j (0 : Fin 1)) = BitVec.ofNat 32 n) :
    Host.gather gather_S16x2048x512_S256x1_S16x256x512_02_1_n_n_1_1_161512 T I (ix3 b j s) = T (ix3 b ⟨n, hn⟩ s) := by
  unfold Host.gather
  congr 1
  funext a
  apply Fin.ext
  match a with
  | ⟨0, _⟩ => exact Nat.zero_add _
  | ⟨1, _⟩ =>
    have e : gather_S16x2048x512_S256x1_S16x256x512_02_1_n_n_1_1_161512.siIdx (ix3 b j s) ⟨0, by decide⟩ = ix2 j (0 : Fin 1) := by
      funext a
      match a with
      | ⟨0, _⟩ => rfl
      | ⟨1, _⟩ => rfl
    show min (I (gather_S16x2048x512_S256x1_S16x256x512_02_1_n_n_1_1_161512.siIdx (ix3 b j s) ⟨0, by decide⟩)).toInt.toNat 2047 + 0 + 0 = n
    rw [e, hI, toInt_small n (by omega)]
    omega
  | ⟨2, _⟩ => exact Nat.zero_add _

/-- A gather of rows out of 2047. -/
theorem take_slopes (T : FVec Ideal S16x2047x512 .f32) (I : IVec S256x1 32) (b : Fin 16) (j : Fin 256) (s : Fin 512) (n : ℕ) (hn : n < 2047)
    (hI : I (ix2 j (0 : Fin 1)) = BitVec.ofNat 32 n) :
    Host.gather gather_S16x2047x512_S256x1_S16x256x512_02_1_n_n_1_1_161512 T I (ix3 b j s) = T (ix3 b ⟨n, hn⟩ s) := by
  unfold Host.gather
  congr 1
  funext a
  apply Fin.ext
  match a with
  | ⟨0, _⟩ => exact Nat.zero_add _
  | ⟨1, _⟩ =>
    have e : gather_S16x2047x512_S256x1_S16x256x512_02_1_n_n_1_1_161512.siIdx (ix3 b j s) ⟨0, by decide⟩ = ix2 j (0 : Fin 1) := by
      funext a
      match a with
      | ⟨0, _⟩ => rfl
      | ⟨1, _⟩ => rfl
    show min (I (gather_S16x2047x512_S256x1_S16x256x512_02_1_n_n_1_1_161512.siIdx (ix3 b j s) ⟨0, by decide⟩)).toInt.toNat 2046 + 0 + 0 = n
    rw [e, hI, toInt_small n (by omega)]
    omega
  | ⟨2, _⟩ => exact Nat.zero_add _

/-- A gather of numbers out of 2048. -/
theorem take_grid (T : FVec Ideal S2048 .f32) (I : IVec S256x1 32) (j : Fin 256) (n : ℕ) (hn : n < 2048)
    (hI : I (ix2 j (0 : Fin 1)) = BitVec.ofNat 32 n) :
    Host.gather gather_S2048_S256x1_S256_n_0_n_n_0_1_1 T I (ix1 j) = T (ix1 ⟨n, hn⟩) := by
  unfold Host.gather
  congr 1
  funext a
  apply Fin.ext
  match a with
  | ⟨0, _⟩ =>
    have e : gather_S2048_S256x1_S256_n_0_n_n_0_1_1.siIdx (ix1 j) ⟨0, by decide⟩ = ix2 j (0 : Fin 1) := by
      funext a
      match a with
      | ⟨0, _⟩ => rfl
      | ⟨1, _⟩ => rfl
    show min (I (gather_S2048_S256x1_S256_n_0_n_n_0_1_1.siIdx (ix1 j) ⟨0, by decide⟩)).toInt.toNat 2047 + 0 + 0 = n
    rw [e, hI, toInt_small n (by omega)]
    omega

/-- A gather along the middle axis, at an index of every entry's own. -/
theorem take_entries (T : FVec Ideal S16x256x512 .f32) (I : IVec S16x256x512x1 32) (b : Fin 16) (j : Fin 256) (s : Fin 512) (n : ℕ) (hn : n < 256)
    (hI : I (ix4 b j s (0 : Fin 1)) = BitVec.ofNat 32 n) :
    Host.gather gather_S16x256x512_S16x256x512x1_S16x256x512_n_1_02_02_1_3_111 T I (ix3 b j s) = T (ix3 b ⟨n, hn⟩ s) := by
  unfold Host.gather
  congr 1
  funext a
  apply Fin.ext
  match a with
  | ⟨0, _⟩ => exact Nat.zero_add _
  | ⟨1, _⟩ =>
    have e : gather_S16x256x512_S16x256x512x1_S16x256x512_n_1_02_02_1_3_111.siIdx (ix3 b j s) ⟨0, by decide⟩ = ix4 b j s (0 : Fin 1) := by
      funext a
      match a with
      | ⟨0, _⟩ => rfl
      | ⟨1, _⟩ => rfl
      | ⟨2, _⟩ => rfl
      | ⟨3, _⟩ => rfl
    show min (I (gather_S16x256x512_S16x256x512x1_S16x256x512_n_1_02_02_1_3_111.siIdx (ix3 b j s) ⟨0, by decide⟩)).toInt.toNat 255 + 0 + 0 = n
    rw [e, hI, toInt_small n (by omega)]
    omega
  | ⟨2, _⟩ => exact Nat.zero_add _

/-! ## The interpolation -/

/-- How far a new point lies past the grid point before it. -/
theorem past_apply (j : Fin 256) : past (ix1 j) = (gap j : EReal) := by
  have h := ind_lt j
  pointwise [past]
  rw [take_grid _ _ j (ind j) (by omega) (index_apply _ j), xn_apply, xs_apply, ← EReal.coe_sub]
  rfl

/-- Every step of the grid is the same. -/
theorem steps_apply (k : Fin 2047) : steps (ix1 k) = (step : EReal) := by
  have h := k.isLt
  pointwise [steps]
  rw [xs_apply, xs_apply, bits_eps, ← EReal.coe_sub, ← EReal.coe_add]
  congr 1
  unfold step
  push_cast
  ring

/-- THE INTERPOLATED ENTRY: the sorted entry before the new point, plus the slope there times the distance past it. -/
theorem interpolated_apply (Y : FVec Ideal S16x2048x512 .f32) (b : Fin 16) (j : Fin 256) (s : Fin 512) :
    interpolated Y (ix3 b j s)
    = Y (ix3 b ⟨ind j, by have := ind_lt j; omega⟩ s)
      + Ideal.div (Y (ix3 b ⟨ind j + 1, by have := ind_lt j; omega⟩ s) - Y (ix3 b ⟨ind j, by have := ind_lt j; omega⟩ s)) (step : EReal) * (gap j : EReal) := by
  have h := ind_lt j
  pointwise [interpolated]
  rw [take_rows _ _ b j s (ind j) (by omega) (index_apply _ j), take_slopes _ _ b j s (ind j) (by omega) (index_apply _ j), past_apply]
  congr 2
  pointwise [slopes]
  rw [steps_apply]
  congr 3
  exact congrArg (fun k => ix3 b k s) (Fin.ext (Nat.add_comm 1 (ind j)))

end Cert.Proof.Ref

end
-- ==== Proof.RefSort.lean ====
/-
  The reference's sort and its order of the reference points: the sort arranges every column in ascending order, and the order of an
  ascending column is the order it stands in.
-/
module

public import proofs.«01_k».proof.Proof.RefRead

@[expose] public section

set_option maxRecDepth 16384

noncomputable section

namespace Cert.Proof.Ref

open Cert.ReferenceIdeal Cert.ReferenceIdeal.Gen Cert.Proof.Interp Idealize.ShloMosaic Idealize.ShloMosaic.TcCoe Idealize.SL.Sem

/-! ## The comparisons -/

/-- A number is compared as it stands: zero is replaced by zero, and no number differs from itself. -/
theorem clean (l nan : EReal) :
    Scalar.select (FloatOps.cmpf (F := Ideal) (φ := .f32) .une l l) nan
      (Scalar.select (FloatOps.cmpf (F := Ideal) (φ := .f32) .oeq l (Ideal.ofBits .f32 0x00000000#32)) (Ideal.ofBits .f32 0x00000000#32) l) = l := by
  have e1 : FloatOps.cmpf (F := Ideal) (φ := .f32) .une l l = 0#1 := by
    show BitVec.ofBool (decide (l ≠ l)) = 0#1
    simp
  rw [e1]
  show Scalar.select (BitVec.ofBool (decide (l = Ideal.ofBits .f32 0x00000000#32))) (Ideal.ofBits .f32 0x00000000#32) l = l
  by_cases h : l = Ideal.ofBits .f32 0x00000000#32
  · rw [← h]; exact ite_self _
  · rw [decide_eq_false h]; rfl

/-- The comparison of the sort is "less than". -/
theorem less (l r : EReal) : comparator_f32_d1 (F := Ideal) l r = BitVec.ofBool (decide (l < r)) := by
  have e : comparator_f32_d1 (F := Ideal) l r
      = BitVec.ofBool (decide (Scalar.select (FloatOps.cmpf (F := Ideal) (φ := .f32) .une l l) (Ideal.ofBits .f32 0x7FC00000#32)
      (Scalar.select (FloatOps.cmpf (F := Ideal) (φ := .f32) .oeq l (Ideal.ofBits .f32 0x00000000#32)) (Ideal.ofBits .f32 0x00000000#32) l)
        < Scalar.select (FloatOps.cmpf (F := Ideal) (φ := .f32) .une r r) (Ideal.ofBits .f32 0x7FC00000#32)
      (Scalar.select (FloatOps.cmpf (F := Ideal) (φ := .f32) .oeq r (Ideal.ofBits .f32 0x00000000#32)) (Ideal.ofBits .f32 0x00000000#32) r))) := rfl
  rw [e, clean, clean]

/-- The comparison of the sort with places is "less than" of the numbers. -/
theorem less_pair (l r : EReal × BitVec 32) : comparator_f32_i32_d1 (F := Ideal) l r = BitVec.ofBool (decide (l.1 < r.1)) :=
  (show comparator_f32_i32_d1 (F := Ideal) l r = comparator_f32_d1 (F := Ideal) l.1 r.1 from rfl).trans (less _ _)

theorem bit_one (p : Prop) [Decidable p] : (BitVec.ofBool (decide p) == 1#1) = decide p := by
  by_cases h : p <;> simp [h]

/-! ## The sort -/

/-- Column `(b, s)` of a batch of columns. -/
def colOf (P : FVec Ideal S16x2048x512 .f32) (b : Fin 16) (s : Fin 512) : Fin 2048 → EReal := fun i => P (ix3 b i s)

/-- Where the sort takes an entry from. -/
def from' {n : ℕ} (f : Fin n → EReal) : Fin n → Fin n := sortedFrom fun k k' => decide (f k < f k')

theorem along_mid {n m l : ℕ} (b : Fin n) (p : Fin m) (s : Fin l) (k : Fin m) :
    Shape.Idx.along (s := ⟨3, ![n, m, l]⟩) (ix3 b p s) (1 : Fin 3) k = ix3 b k s := by
  funext a
  match a with
  | ⟨0, _⟩ => rfl
  | ⟨1, _⟩ => rfl
  | ⟨2, _⟩ => rfl

/-- A sort along the middle axis of three, at an index. -/
theorem sort_mid {α : Type} {n m l : ℕ} (cmp : α → α → BitVec 1) (x : Shape.Idx ⟨3, ![n, m, l]⟩ → α) (b : Fin n) (p : Fin m) (s : Fin l) :
    Host.sort ⟨3, ![n, m, l]⟩ 1 cmp x (ix3 b p s) = x (ix3 b (sortedFrom (fun k k' => cmp (x (ix3 b k s)) (x (ix3 b k' s)) == 1#1) p) s) := by
  unfold Host.sort
  rw [dif_pos (show 1 < 3 by decide)]
  show x (Shape.Idx.along (s := ⟨3, ![n, m, l]⟩) (ix3 b p s) (1 : Fin 3) (sortedFrom (fun k k' : Fin m =>
    cmp (x (Shape.Idx.along (s := ⟨3, ![n, m, l]⟩) (ix3 b p s) (1 : Fin 3) k)) (x (Shape.Idx.along (s := ⟨3, ![n, m, l]⟩) (ix3 b p s) (1 : Fin 3) k')) == 1#1) p)) = _
  simp only [along_mid]
  exact congrArg x (along_mid _ _ _ _)

/-- The second array of a sort of two along the middle axis of three, at an index. -/
theorem sort2_mid {α β : Type} {n m l : ℕ} (cmp : α × β → α × β → BitVec 1) (x : Shape.Idx ⟨3, ![n, m, l]⟩ → α) (y : Shape.Idx ⟨3, ![n, m, l]⟩ → β)
    (b : Fin n) (p : Fin m) (s : Fin l) :
    (Host.sort2 ⟨3, ![n, m, l]⟩ 1 cmp x y).2 (ix3 b p s)
    = y (ix3 b (sortedFrom (fun k k' => cmp (x (ix3 b k s), y (ix3 b k s)) (x (ix3 b k' s), y (ix3 b k' s)) == 1#1) p) s) := by
  unfold Host.sort2
  rw [dif_pos (show 1 < 3 by decide)]
  show y (Shape.Idx.along (s := ⟨3, ![n, m, l]⟩) (ix3 b p s) (1 : Fin 3) (sortedFrom (fun k k' : Fin m =>
    cmp (x (Shape.Idx.along (s := ⟨3, ![n, m, l]⟩) (ix3 b p s) (1 : Fin 3) k), y (Shape.Idx.along (s := ⟨3, ![n, m, l]⟩) (ix3 b p s) (1 : Fin 3) k))
      (x (Shape.Idx.along (s := ⟨3, ![n, m, l]⟩) (ix3 b p s) (1 : Fin 3) k'), y (Shape.Idx.along (s := ⟨3, ![n, m, l]⟩) (ix3 b p s) (1 : Fin 3) k')) == 1#1) p)) = _
  simp only [along_mid]
  exact congrArg y (along_mid _ _ _ _)

/-- A sorted batch, by its columns. -/
theorem sorts_from (P : FVec Ideal S16x2048x512 .f32) (b : Fin 16) (p : Fin 2048) (s : Fin 512) :
    sorts P (ix3 b p s) = colOf P b s (from' (colOf P b s) p) := by
  unfold sorts
  rw [sort_mid]
  simp only [less, bit_one]
  rfl

theorem from_monotone {n : ℕ} (f : Fin n → EReal) : Monotone (f ∘ from' f) := by
  intro i j h
  rcases h.eq_or_lt with h | h
  · rw [h]
  · have := sortedFrom_noInversion (fun k k' => decide (f k < f k')) (fun k k' => decide (f k < f k'))
      (fun a b h => decide_eq_false (not_lt.mpr (of_decide_eq_true h).le)) (fun _ _ h => h)
      (fun a b c h1 h2 => decide_eq_false (not_lt.mpr ((not_lt.mp (of_decide_eq_false h2)).trans (not_lt.mp (of_decide_eq_false h1))))) i j h
    exact not_lt.mp (of_decide_eq_false this)

/-- Two ascending rearrangements of one column are equal. -/
theorem ascending_unique {n : ℕ} (f : Fin n → EReal) (σ τ : Equiv.Perm (Fin n)) (hσ : Monotone (f ∘ σ)) (hτ : Monotone (f ∘ τ)) : f ∘ σ = f ∘ τ := by
  have h1 : (List.ofFn (f ∘ σ)).Pairwise (· ≤ ·) := List.pairwise_ofFn.mpr fun i j h => hσ h.le
  have h2 : (List.ofFn (f ∘ τ)).Pairwise (· ≤ ·) := List.pairwise_ofFn.mpr fun i j h => hτ h.le
  exact List.ofFn_injective (List.Perm.eq_of_pairwise (fun a b _ _ q1 q2 => le_antisymm q1 q2) h1 h2
    ((Equiv.Perm.ofFn_comp_perm σ f).trans (Equiv.Perm.ofFn_comp_perm τ f).symm))

/-- A column as the sort arranges it is any ascending rearrangement of it. -/
theorem from_eq {n : ℕ} (f g : Fin n → EReal) (hm : Monotone g) (σ : Equiv.Perm (Fin n)) (hg : g = f ∘ σ) (p : Fin n) : f (from' f p) = g p := by
  have hb : Function.Bijective (from' f) := ⟨sortedFrom_injective _, sortedFrom_surjective _⟩
  subst hg
  exact congrFun (ascending_unique f (Equiv.ofBijective _ hb) σ (from_monotone f) hm) p

/-- THE SORT: any ascending rearrangement of a column is the sorted column. -/
theorem sorts_eq (P : FVec Ideal S16x2048x512 .f32) (b : Fin 16) (s : Fin 512) (g : Fin 2048 → EReal) (hm : Monotone g)
    (σ : Equiv.Perm (Fin 2048)) (hg : g = colOf P b s ∘ σ) (p : Fin 2048) : sorts P (ix3 b p s) = g p :=
  (sorts_from P b p s).trans (from_eq (colOf P b s) g hm σ hg p)

/-! ## The order of an ascending column -/

/-- A list in which nothing stands before what precedes it is left as it is. -/
theorem sort_id {ι : Type} (R : ι → ι → Bool) : ∀ l : List ι, l.Pairwise (fun a b => R b a = false) → stableSort R l = l
  | [], _ => rfl
  | a :: l, h => by
    rw [List.pairwise_cons] at h
    show insertBefore R a (stableSort R l) = a :: l
    rw [sort_id R l h.2]
    match l, h with
    | [], _ => rfl
    | b :: l, h =>
      show (if R b a then b :: insertBefore R a l else a :: b :: l) = _
      rw [h.1 b (List.mem_cons_self ..)]
      rfl

/-- A sort whose entries already stand in order takes each from where it is. -/
theorem sortedFrom_id {n : ℕ} (R : Fin n → Fin n → Bool) (h : ∀ a b : Fin n, a < b → R b a = false) (k : Fin n) : sortedFrom R k = k := by
  have e : sortPositions n R = List.finRange n :=
    sort_id R _ ((List.pairwise_lt_finRange n).imp fun {a b} hab => h a b hab)
  unfold sortedFrom
  rw [List.get_of_eq e]
  simp

variable (ref : FVec Ideal S256x512 .f32)

theorem points_apply (b : Fin 16) (j : Fin 256) (s : Fin 512) : points ref (ix3 b j s) = ref (ix2 j s) := by
  pointwise [points]

/-- THE ORDER of ascending reference points is the order they stand in. -/
theorem order_apply (h : ∀ (j j' : Fin 256) (s : Fin 512), j < j' → ref (ix2 j s) ≤ ref (ix2 j' s)) (b : Fin 16) (j : Fin 256) (s : Fin 512) :
    order ref (ix3 b j s) = BitVec.ofNat 32 j.val := by
  unfold order
  rw [sort2_mid]
  simp only [less_pair, bit_one, points_apply]
  rw [sortedFrom_id _ fun k k' hk => decide_eq_false (not_lt.mpr (h k k' s hk))]
  rfl

/-- The indices of the gather are that order. -/
theorem orderIndex_apply (o : IVec S16x256x512 32) (ho : ∀ (b : Fin 16) (j : Fin 256) (s : Fin 512), o (ix3 b j s) = BitVec.ofNat 32 j.val)
    (b : Fin 16) (j : Fin 256) (s : Fin 512) : orderIndex o (ix4 b j s (0 : Fin 1)) = BitVec.ofNat 32 j.val := by
  have h := j.isLt
  pointwise [orderIndex]
  rw [ho, small_slt _ (by omega)]
  rfl

theorem inside_small : ∀ j : Fin 256, IntOp.andi (IntOp.cmpi .sge (BitVec.ofNat 32 j.val) 0#32) (IntOp.cmpi .sle (BitVec.ofNat 32 j.val) 255#32) = 1#1 := by
  decide +kernel

/-- They all lie inside the array. -/
theorem inside_apply (J : IVec S16x256x512x1 32) (hJ : ∀ (b : Fin 16) (j : Fin 256) (s : Fin 512), J (ix4 b j s (0 : Fin 1)) = BitVec.ofNat 32 j.val)
    (i : S16x256x512.Idx) : inside J i = 1#1 := by
  refine Host.reduce_andi_one _ _ _ _ i rfl fun i => ?_
  idx_vars i
  obtain rfl : i3 = 0 := Subsingleton.elim _ _
  pointwise []
  rw [hJ]
  exact inside_small i1

/-- So each entry is taken from its own place. -/
theorem taken_apply (T : FVec Ideal S16x256x512 .f32) (J : IVec S16x256x512x1 32)
    (hJ : ∀ (b : Fin 16) (j : Fin 256) (s : Fin 512), J (ix4 b j s (0 : Fin 1)) = BitVec.ofNat 32 j.val) (b : Fin 16) (j : Fin 256) (s : Fin 512) :
    taken T J (ix3 b j s) = T (ix3 b j s) := by
  pointwise [taken]
  rw [inside_apply J hJ, Scalar.select, if_pos (show (1#1 : BitVec 1) = 1 from rfl)]
  exact take_entries T J b j s j.val j.isLt (hJ b j s)

/-! ## The sums -/

variable (X : FVec Ideal S16x2048x512 .f32) (th : FVec Ideal S512x512 .f32) (w : FVec Ideal S1x256 .f32)

/-- A projection: the sum over the coordinates of the point times the direction over its length. -/
theorem projections_apply (b : Fin 16) (i : Fin 2048) (s : Fin 512) :
    projections X th (ix3 b i s)
    = ∑ k : Fin 512, X (ix3 b i k) * Ideal.div (th (ix2 s k)) (Ideal.sqrt (∑ k, th (ix2 s k) * th (ix2 s k))) := by
  pointwise [projections, units]
  trace_state

/-- The weighted sum of the differences. -/
theorem weighted_apply (T : FVec Ideal S16x256x512 .f32) (b : Fin 16) (s : Fin 512) :
    weighted ref w T (ix3 b (0 : Fin 1) s) = ∑ j : Fin 256, (ref (ix2 j s) - T (ix3 b j s)) * w (ix2 (0 : Fin 1) j) := by
  pointwise [weighted]
  simp only [points_apply, Finset.univ_unique, Finset.sum_singleton]

end Cert.Proof.Ref

end
-- ==== Proof.RealSum.lean ====
/-
  Sums of extended reals of which all but the reference points are real, and the sum over the matrix as the sum over the interpolated entries.
-/
module

public import proofs.«01_k».proof.Proof.Interp

@[expose] public section

set_option maxRecDepth 16384

noncomputable section

namespace Cert.Proof.RealSum

open Cert.Proof.Interp Cert.Proof.Stages Idealize.ShloMosaic

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real factor goes into a difference of which the second term is real. -/
theorem sub_mul_real (a : EReal) (c ω : ℝ) : (a - (c : EReal)) * (ω : EReal) = (ω : EReal) * a - ((ω * c : ℝ) : EReal) := by
  induction a with
  | coe a =>
    rw [← EReal.coe_sub, ← EReal.coe_mul, ← EReal.coe_mul, ← EReal.coe_sub]
    congr 1
    ring
  | top =>
    rw [EReal.top_sub_coe]
    rcases lt_trichotomy ω 0 with h | h | h
    · rw [EReal.top_mul_coe_of_neg h, EReal.coe_mul_top_of_neg h, EReal.bot_sub]
    · subst h; simp
    · rw [EReal.top_mul_coe_of_pos h, EReal.coe_mul_top_of_pos h, EReal.top_sub_coe]
  | bot =>
    rw [EReal.bot_sub]
    rcases lt_trichotomy ω 0 with h | h | h
    · rw [EReal.bot_mul_coe_of_neg h, EReal.coe_mul_bot_of_neg h, EReal.top_sub_coe]
    · subst h; simp
    · rw [EReal.bot_mul_coe_of_pos h, EReal.coe_mul_bot_of_pos h, EReal.bot_sub]

/-- A sum of differences with real second terms is the difference of the sums. -/
theorem sum_sub_real {ι : Type} (s : Finset ι) (x : ι → EReal) (r : ι → ℝ) :
    ∑ i ∈ s, (x i - (r i : EReal)) = (∑ i ∈ s, x i) - ((∑ i ∈ s, r i : ℝ) : EReal) := by
  classical
  induction s using Finset.induction_on with
  | empty => simp
  | insert a s ha ih =>
    rw [Finset.sum_insert ha, Finset.sum_insert ha, Finset.sum_insert ha, ih, EReal.coe_add]
    simp only [sub_eq_add_neg]
    rw [← EReal.coe_add, ← EReal.coe_neg, ← EReal.coe_neg, ← EReal.coe_neg, add_add_add_comm, ← EReal.coe_add, neg_add]

/-- The order of reversed bits as a permutation. -/
def rvPerm : Equiv.Perm (Fin 2048) := ⟨rv, rv, rv_rv, rv_rv⟩

/-- A sum over one row of the matrix. -/
theorem row_sum (j : Fin 256) (Y : Fin 2048 → ℝ) :
    ∑ p : Fin 2048, ((if p.val = ind j then 1 - frac j else 0) + (if p.val = ind j + 1 then frac j else 0)) * Y p
    = (1 - frac j) * Y ⟨ind j, by have := ind_lt j; omega⟩ + frac j * Y ⟨ind j + 1, by have := ind_lt j; omega⟩ := by
  have h := ind_lt j
  have e1 : ∀ p : Fin 2048, (p.val = ind j) = (p = ⟨ind j, by omega⟩) := fun p => propext (Fin.ext_iff (a := p) (b := ⟨_, _⟩)).symm
  have e2 : ∀ p : Fin 2048, (p.val = ind j + 1) = (p = ⟨ind j + 1, by omega⟩) := fun p => propext (Fin.ext_iff (a := p) (b := ⟨_, _⟩)).symm
  simp only [e1, e2, add_mul, ite_mul, zero_mul, Finset.sum_add_distrib, Finset.sum_ite_eq', Finset.mem_univ, if_true]

/-- THE SUM over the matrix times the sorted entries is the weighted sum of the interpolated entries. -/
theorem matrix_sum (ω : Fin 256 → ℝ) (Y : Fin 2048 → ℝ) :
    ∑ k : Fin 2048, (∑ j : Fin 256, ω j * ((if (rv k).val = ind j then 1 - frac j else 0) + (if (rv k).val = ind j + 1 then frac j else 0))) * Y (rv k)
    = ∑ j : Fin 256, ω j * (Y ⟨ind j, by have := ind_lt j; omega⟩
        + (Y ⟨ind j + 1, by have := ind_lt j; omega⟩ - Y ⟨ind j, by have := ind_lt j; omega⟩) * (1 / step) * gap j) := by
  refine (Equiv.sum_comp rvPerm fun p : Fin 2048 =>
    (∑ j : Fin 256, ω j * ((if p.val = ind j then 1 - frac j else 0) + (if p.val = ind j + 1 then frac j else 0))) * Y p).trans ?_
  simp only [Finset.sum_mul]
  rw [Finset.sum_comm]
  refine Finset.sum_congr rfl fun j _ => ?_
  have e := row_sum j Y
  simp only [mul_assoc]
  rw [← Finset.mul_sum, e]
  congr 1
  unfold frac
  ring

end Cert.Proof.RealSum

end
-- ==== Proof.Equal.lean ====
/-
  On ordinary arguments the kernel's array is the reference's array.
-/
module

public import proofs.«01_k».proof.Proof.RefSort
public import proofs.«01_k».proof.Proof.RealSum
public import proofs.«01_k».proof.Proof.Ordinary

@[expose] public section

set_option maxRecDepth 16384

noncomputable section

namespace Cert.Proof.Equal

open Cert.ReferenceIdeal Cert.Proof.Stages Cert.Proof.Kernel Cert.Proof.Interp Cert.Proof.RealSum Cert.Proof.Ordinary Cert.Proof.Ref Idealize.ShloMosaic

/-- A direction over its length is the direction times the reciprocal of its length. -/
theorem unit_eq (t : Fin 512 → ℝ) (k0 : Fin 512) (h : t k0 ≠ 0) (k : Fin 512) :
    Ideal.div (t k : EReal) (Ideal.sqrt (∑ k, (t k : EReal) * (t k : EReal))) = (t k : EReal) * Ideal.rsqrt (∑ k, (t k : EReal) * (t k : EReal))
    ∧ ∃ r : ℝ, (t k : EReal) * Ideal.rsqrt (∑ k, (t k : EReal) * (t k : EReal)) = (r : EReal) := by
  have e : ∑ k, (t k : EReal) * (t k : EReal) = ((∑ k, t k * t k : ℝ) : EReal) := by
    simp only [← EReal.coe_mul]
    exact coe_sum _ _
  have hp : 0 < ∑ k, t k * t k :=
    Finset.sum_pos' (fun k _ => mul_self_nonneg (t k)) ⟨k0, Finset.mem_univ _, mul_self_pos.mpr h⟩
  rw [e]
  generalize (∑ k, t k * t k) = S at hp
  have es : Ideal.sqrt (S : EReal) = ((Real.sqrt S : ℝ) : EReal) := if_neg (not_lt.mpr hp.le)
  have er : Ideal.rsqrt (S : EReal) = (((Real.sqrt S)⁻¹ : ℝ) : EReal) := (if_neg (not_lt.mpr hp.le)).trans (if_neg hp.ne')
  rw [es, er, Ideal.div_coe (Real.sqrt_pos.mpr hp).ne', one_div]
  exact ⟨rfl, _, (EReal.coe_mul _ _).symm⟩

variable {X : FVec Ideal S16x2048x512 .f32} {th : FVec Ideal S512x512 .f32} {ref : FVec Ideal S256x512 .f32} {w : FVec Ideal S1x256 .f32}

/-- The projections are the same, and real. -/
theorem projections_eq (g : Good X th ref w) (b : Fin 16) (s : Fin 512) :
    colOf (projections X th) b s = projS X th b s ∧ ∀ i, ∃ r : ℝ, projS X th b s i = (r : EReal) := by
  obtain ⟨k0, h0⟩ := g.nonzero s
  choose t ht using g.direction s
  have hk : t k0 ≠ 0 := fun e => h0 (by rw [ht, e]; rfl)
  have hu := unit_eq t k0 hk
  constructor
  · funext i
    show projections X th (ix3 b i s) = _
    rw [projections_apply]
    simp only [projS, ht, (hu _).1]
    rfl
  · intro i
    choose u hu' using fun k => (hu k).2
    choose x hx using g.point b (row i)
    refine ⟨∑ k, x k * u k, ?_⟩
    simp only [projS, ht, hu', hx]
    simp only [← EReal.coe_mul]
    exact coe_sum _ _

/-- The sorted entries are the kernel's, which are real. -/
theorem sorted_eq (g : Good X th ref w) (b : Fin 16) (s : Fin 512) : ∃ Y : Fin 2048 → ℝ,
    (∀ p : Fin 2048, sorts (projections X th) (ix3 b p s) = (Y p : EReal)) ∧ ∀ k : Fin 2048, srt 11 (projS X th b s) k = (Y (rv k) : EReal) := by
  obtain ⟨hc, hr⟩ := projections_eq g b s
  obtain ⟨σ, hσ⟩ := srt_perm (projS X th b s)
  choose r hr using hr
  refine ⟨fun p => r (σ p), fun p => ?_, fun k => ?_⟩
  · refine (sorts_eq (projections X th) b s (fun p => srt 11 (projS X th b s) (rv p)) (srt_monotone _) σ (by rw [hc]; exact hσ) p).trans ?_
    exact (congrFun hσ p).trans (hr _)
  · have e : srt 11 (projS X th b s) (rv (rv k)) = projS X th b s (σ (rv k)) := congrFun hσ (rv k)
    rw [rv_rv k] at e
    exact e.trans (hr _)

/-- THE ARRAYS AGREE on ordinary arguments. -/
theorem arrays (g : Good X th ref w) : kOut X th ref w mat
    = weighted ref w (taken (interpolated (sorts (projections X th))) (orderIndex (order ref))) := by
  funext j
  idx_vars j
  obtain rfl : j1 = 0 := Subsingleton.elim _ _
  show kAt X th ref w mat j0 j2 = _
  obtain ⟨Y, h1, h2⟩ := sorted_eq g j0 j2
  choose ω hω using g.weight
  rw [weighted_apply]
  simp only [taken_apply _ _ (orderIndex_apply _ (order_apply ref g.ascend)), interpolated_apply, h1, hω]
  unfold kAt
  simp only [h2, mat_apply, hω, Ideal.div_coe step_ne, ← EReal.coe_mul, ← EReal.coe_sub, ← EReal.coe_add, coe_sum, sub_mul_real, sum_sub_real]
  rw [matrix_sum]

end Cert.Proof.Equal

end
-- ==== Proof.lean ====
/- The certificate's claim, assembled: the three frames, and the equation between the kernel and the reference over
   the extended reals, from what the modules under proof/Proof/ prove about each of the two programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ordinary
public import proofs.«01_k».proof.Proof.Gen.KernelIdeal.Value
public import proofs.«01_k».proof.Proof.Gen.ReferenceIdeal.Run
public import proofs.«01_k».proof.Proof.Kernel
public import proofs.«01_k».proof.Proof.Interp
public import proofs.«01_k».proof.Proof.RefTerm
public import proofs.«01_k».proof.Proof.Ordinary
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: it terminates, leaves its arguments as they were, and has no semaphore to leave raised. -/
theorem frame_ri : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The value claim: on ordinary arguments the kernel's result array is the reference's. The kernel's array is `kOut`
    of the arguments and of the interpolation matrix that the host builds; the reference's is the weighted sum of
    differences over the sorted, interpolated projections; `Equal.arrays` says that the two are one array. -/
theorem algebraic : Cert.algebraic_KernelIdeal_ReferenceIdeal_pre_ordinary := by
  pair_intro
  · run_from Cert.KernelIdeal.Value.run_blocks m g
  · run_from Cert.ReferenceIdeal.Value.run m' g'
    obtain ⟨h0, h1, h2, h3⟩ := hagree c
    refine (Ref.result m' c).trans ?_
    rw [h0, h1, h2, h3]
    refine Eq.trans (Equal.arrays (Ordinary.good _ _ _ _ (hpre c))).symm ?_
    refine Eq.trans ?_ (Kernel.final m c).symm
    exact congrArg (Kernel.kOut _ _ _ _) (Interp.operand_eq m c).symm

theorem claim : Cert.Claim :=
  ⟨Cert.Kernel.Gen.facts, Cert.KernelIdeal.Gen.facts, Cert.ReferenceIdeal.Gen.facts, Cert.Pre_ordinary.Gen.facts,
    fun m g _ => Cert.Kernel.Gen.frame m g,
    fun m g _ => Cert.KernelIdeal.Gen.frame m g,
    fun m g _ => Cert.KernelIdeal.Gen.frame m g,
    frame_ri,
    fun m g _ => frame_ri m g trivial,
    trivial,
    algebraic⟩

end Cert.Proof

end
